-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![256, 256]⟩ ⟨2, ![1024, 256]⟩ 0 4 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![256, 256]⟩ ⟨2, ![1024, 256]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S256x256 : Shape := ⟨2, ![256, 256]⟩
abbrev S4x1x256 : Shape := ⟨3, ![4, 1, 256]⟩
abbrev S3 : Shape := ⟨1, ![3]⟩
abbrev S_ : Shape := ⟨0, ![]⟩
abbrev S256 : Shape := ⟨1, ![256]⟩
abbrev S1x256 : Shape := ⟨2, ![1, 256]⟩
abbrev S1x1x256 : Shape := ⟨3, ![1, 1, 256]⟩
abbrev S1 : Shape := ⟨1, ![1]⟩

abbrev nBuf : Space → Nat
  | .hbm => 2
  | .vmem => 3
  | .smem => 0
  | _ => 0

abbrev bufTy : (tb : Table) → Fin (tcTables nBuf tb) → BufTy
  | .hbm, ⟨0, _⟩ => ⟨S256x256, .bf16⟩
  | .hbm, ⟨1, _⟩ => ⟨S256x256, .bf16⟩
  | .local _ .vmem, ⟨0, _⟩ => ⟨S256x256, .bf16⟩
  | .local _ .vmem, ⟨1, _⟩ => ⟨S256x256, .bf16⟩
  | .local _ .vmem, ⟨2, _⟩ => ⟨S4x1x256, .f32⟩
  | _, _ => ⟨S256x256, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  (ofTc nBuf bufTy 1 8 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_sem0_0 : DmaSem sig := 0
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.addi v2 c1_i32_0
  let c4_i32_1 : BitVec 32 := 4#32
  let c0_i32 : BitVec 32 := 0#32
  let v5 : BitVec 1 := Scalar.cmpi .eq c4_i32_1 c0_i32
  let c1_i32_2 : BitVec 32 := 1#32
  let v6 : BitVec 32 := Scalar.select v5 c1_i32_2 c4_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v17 : BitVec 32 := Scalar.addi v2 c2_i32
  let c4_i32_9 : BitVec 32 := 4#32
  let c0_i32_10 : BitVec 32 := 0#32
  let v18 : BitVec 1 := Scalar.cmpi .eq c4_i32_9 c0_i32_10
  let c1_i32_11 : BitVec 32 := 1#32
  let v19 : BitVec 32 := Scalar.select v18 c1_i32_11 c4_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v30 : BitVec 32 := Scalar.addi v2 c3_i32
  let c4_i32_18 : BitVec 32 := 4#32
  let c0_i32_19 : BitVec 32 := 0#32
  let v31 : BitVec 1 := Scalar.cmpi .eq c4_i32_18 c0_i32_19
  let c1_i32_20 : BitVec 32 := 1#32
  let v32 : BitVec 32 := Scalar.select v31 c1_i32_20 c4_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_dev4 (d0 : Dev nD) : Nat :=
  let c0_i32_43 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_31 : BitVec 32 := 1#32
  let v51 : BitVec 32 := Scalar.addi v2 c1_i32_31
  let c4_i32_32 : BitVec 32 := 4#32
  let c0_i32_33 : BitVec 32 := 0#32
  let v52 : BitVec 1 := Scalar.cmpi .eq c4_i32_32 c0_i32_33
  let c1_i32_34 : BitVec 32 := 1#32
  let v53 : BitVec 32 := Scalar.select v52 c1_i32_34 c4_i32_32
  let v54 : BitVec 32 := Scalar.remsi v51 v53
  let c0_i32_36 : BitVec 32 := 0#32
  let v56 : BitVec 1 := Scalar.cmpi .slt v54 c0_i32_36
  let c0_i32_37 : BitVec 32 := 0#32
  let v57 : BitVec 1 := Scalar.cmpi .slt v53 c0_i32_37
  let v58 : BitVec 1 := Scalar.xori v56 v57
  let c0_i32_35 : BitVec 32 := 0#32
  let v55 : BitVec 1 := Scalar.cmpi .ne v54 c0_i32_35
  let v59 : BitVec 1 := Scalar.andi v58 v55
  let v60 : BitVec 32 := Scalar.addi v54 v53
  let v61 : BitVec 32 := Scalar.select v59 v60 v54
  let c1_i32_42 : BitVec 32 := 1#32
  let v62 : BitVec 32 := Scalar.muli v61 c1_i32_42
  let v63 : BitVec 32 := Scalar.addi c0_i32_43 v62
  v63.toNat
def k0_dev5 (d0 : Dev nD) : Nat :=
  let c0_i32_60 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_48 : BitVec 32 := 2#32
  let v72 : BitVec 32 := Scalar.addi v2 c2_i32_48
  let c4_i32_49 : BitVec 32 := 4#32
  let c0_i32_50 : BitVec 32 := 0#32
  let v73 : BitVec 1 := Scalar.cmpi .eq c4_i32_49 c0_i32_50
  let c1_i32_51 : BitVec 32 := 1#32
  let v74 : BitVec 32 := Scalar.select v73 c1_i32_51 c4_i32_49
  let v75 : BitVec 32 := Scalar.remsi v72 v74
  let c0_i32_53 : BitVec 32 := 0#32
  let v77 : BitVec 1 := Scalar.cmpi .slt v75 c0_i32_53
  let c0_i32_54 : BitVec 32 := 0#32
  let v78 : BitVec 1 := Scalar.cmpi .slt v74 c0_i32_54
  let v79 : BitVec 1 := Scalar.xori v77 v78
  let c0_i32_52 : BitVec 32 := 0#32
  let v76 : BitVec 1 := Scalar.cmpi .ne v75 c0_i32_52
  let v80 : BitVec 1 := Scalar.andi v79 v76
  let v81 : BitVec 32 := Scalar.addi v75 v74
  let v82 : BitVec 32 := Scalar.select v80 v81 v75
  let c1_i32_59 : BitVec 32 := 1#32
  let v83 : BitVec 32 := Scalar.muli v82 c1_i32_59
  let v84 : BitVec 32 := Scalar.addi c0_i32_60 v83
  v84.toNat
def k0_dev6 (d0 : Dev nD) : Nat :=
  let c0_i32_77 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_65 : BitVec 32 := 3#32
  let v93 : BitVec 32 := Scalar.addi v2 c3_i32_65
  let c4_i32_66 : BitVec 32 := 4#32
  let c0_i32_67 : BitVec 32 := 0#32
  let v94 : BitVec 1 := Scalar.cmpi .eq c4_i32_66 c0_i32_67
  let c1_i32_68 : BitVec 32 := 1#32
  let v95 : BitVec 32 := Scalar.select v94 c1_i32_68 c4_i32_66
  let v96 : BitVec 32 := Scalar.remsi v93 v95
  let c0_i32_70 : BitVec 32 := 0#32
  let v98 : BitVec 1 := Scalar.cmpi .slt v96 c0_i32_70
  let c0_i32_71 : BitVec 32 := 0#32
  let v99 : BitVec 1 := Scalar.cmpi .slt v95 c0_i32_71
  let v100 : BitVec 1 := Scalar.xori v98 v99
  let c0_i32_69 : BitVec 32 := 0#32
  let v97 : BitVec 1 := Scalar.cmpi .ne v96 c0_i32_69
  let v101 : BitVec 1 := Scalar.andi v100 v97
  let v102 : BitVec 32 := Scalar.addi v96 v95
  let v103 : BitVec 32 := Scalar.select v101 v102 v96
  let c1_i32_76 : BitVec 32 := 1#32
  let v104 : BitVec 32 := Scalar.muli v103 c1_i32_76
  let v105 : BitVec 32 := Scalar.addi c0_i32_77 v104
  v105.toNat
abbrev stage0_0 : Fin 1 → Memref sig .tc .vmem S256x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S1024x256 : Shape := ⟨2, ![1024, 256]⟩
abbrev S_ : Shape := ⟨0, ![]⟩

abbrev nBuf : Space → Nat
  | .hbm => 4
  | .vmem => 0
  | .smem => 0
  | _ => 0

abbrev bufTy : (tb : Table) → Fin (tcTables nBuf tb) → BufTy
  | .hbm, ⟨0, _⟩ => ⟨S1024x256, .bf16⟩
  | .hbm, ⟨1, _⟩ => ⟨S_, .bf16⟩
  | .hbm, ⟨2, _⟩ => ⟨S_, .bf16⟩
  | .hbm, ⟨3, _⟩ => ⟨S1024x256, .bf16⟩
  | _, _ => ⟨S1024x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_call0_call0_cst : Ref sig .tc := ⟨.hbm, 1, rfl⟩
abbrev main_call0_call0_v0 : Ref sig .tc := ⟨.hbm, 2, rfl⟩
abbrev main_v0 : Ref sig .tc := ⟨.hbm, 3, rfl⟩

abbrev nD : Nat := 1
abbrev τ : Topo := Topo.v7x

variable {F : FTy → Type} [FloatOps F]
-- ==== Proof.Exchange.lean ====
/-
# The exchange of the totals: devices, rows of the exchange buffer, semaphores

Four devices stand in a ring. Each one sums its block of rows, writes the sum in row 3 of its exchange buffer `comm`
(four rows of 256 numbers), and copies that row into row 0 of the device one ahead, row 1 of the device two ahead and
row 2 of the device three ahead. This module names the devices, the rows and the semaphores, says what each row holds
at the end, and proves how the kernel's windows on `comm` read and write those rows.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Ring
public import Idealize.ShloMosaic.Lib.Tactic

@[expose] public section

noncomputable section

namespace Cert.PrefixSum

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## Devices -/

/-- The device `k` places further round the ring. -/
def hop (k : ℕ) (c : Dev nD) : Dev nD := ⟨(c.val + k) % 4, Nat.mod_lt _ (by decide)⟩

theorem hop_hop (a b : ℕ) (c : Dev nD) : hop a (hop b c) = hop (b + a) c :=
  Fin.ext (by simp only [hop]; omega)

theorem hop_four (c : Dev nD) : hop 4 c = c := by revert c; decide

/-- The device a signal or a copy of the kernel names, as a number of places ahead. -/
theorem dev1_eq (c : Dev nD) : (⟨k0_dev1 c, k0_dev1_lt c⟩ : Dev nD) = hop 1 c := by revert c; decide +kernel
theorem dev2_eq (c : Dev nD) : (⟨k0_dev2 c, k0_dev2_lt c⟩ : Dev nD) = hop 2 c := by revert c; decide +kernel
theorem dev3_eq (c : Dev nD) : (⟨k0_dev3 c, k0_dev3_lt c⟩ : Dev nD) = hop 3 c := by revert c; decide +kernel
theorem dev4_eq (c : Dev nD) : (⟨k0_dev4 c, k0_dev4_lt c⟩ : Dev nD) = hop 1 c := by revert c; decide +kernel
theorem dev5_eq (c : Dev nD) : (⟨k0_dev5 c, k0_dev5_lt c⟩ : Dev nD) = hop 2 c := by revert c; decide +kernel
theorem dev6_eq (c : Dev nD) : (⟨k0_dev6 c, k0_dev6_lt c⟩ : Dev nD) = hop 3 c := by revert c; decide +kernel

/-- Going `k` places ahead is a permutation of the devices, undone by going `4 - k` places. -/
def hopEquiv (k : Fin 4) : Dev nD ≃ Dev nD where
  toFun := hop k
  invFun := hop (4 - k)
  left_inv c := by rw [hop_hop, Nat.add_sub_cancel' k.isLt.le, hop_four]
  right_inv c := by rw [hop_hop, Nat.sub_add_cancel k.isLt.le, hop_four]

/-! ## Buffers -/

/-- The block of `x`, the block of sums, the exchange buffer, and the result's block in main memory. -/
abbrev xM : Memref sig .tc .vmem S256x256 .bf16 := Memref.whole cc0_stg0_0
abbrev sumM : Memref sig .tc .vmem S256x256 .bf16 := Memref.whole cc0_scratch0
abbrev commM : Memref sig .tc .vmem S4x1x256 .f32 := Memref.whole cc0_scratch1
abbrev outM : Memref sig .tc .hbm S256x256 .bf16 := Memref.whole main_v1

abbrev xLoc (c : Dev nD) : Loc nD τ sig := (c : Thread nD τ).loc cc0_stg0_0
abbrev sumLoc (c : Dev nD) : Loc nD τ sig := (c : Thread nD τ).loc cc0_scratch0
abbrev commLoc (c : Dev nD) : Loc nD τ sig := (c : Thread nD τ).loc cc0_scratch1
abbrev outLoc (c : Dev nD) : Loc nD τ sig := (c : Thread nD τ).loc main_v1

/-- That row `j` of `comm` lies inside it. -/
abbrev RowIn (j : ℕ) : Prop := ∀ a, (![j, 0, 0] : Fin 3 → ℕ) a + S1x1x256.size a ≤ S4x1x256.size a

theorem rowIn (j : Fin 4) : RowIn j := by revert j; decide

/-- Row `j` of `comm` as a rectangle, as the window the kernel's copies name, and as a set of places. -/
abbrev rowRect (j : ℕ) (h : RowIn j) : Rect S4x1x256 := Rect.unit (s := S4x1x256) ![j, 0, 0] S1x1x256.size h
abbrev rowM (j : ℕ) (h : RowIn j) : Memref sig .tc .vmem S1x256 .f32 :=
  (commM.slice (rowRect j h) (fun _ => rfl)).squeeze S1x256 squeezes_S1x1x256_S1x256
abbrev rowSet (j : ℕ) (h : RowIn j) : Finset S4x1x256.Idx := (rowRect j h).set

theorem mem_rowSet {j : ℕ} {h : RowIn j} {i : S4x1x256.Idx} : i ∈ rowSet j h ↔ (i 0).val = j := by
  rw [Rect.mem_set_unit]
  constructor
  · intro hi; have := hi 0; simp at this; omega
  · intro hi a
    fin_cases a
    · simp; omega
    · have := (i 1).isLt; simpa using this
    · have := (i 2).isLt; simpa using this

theorem rowM_set (j : ℕ) (h : RowIn j) : (rowM j h).view.set = rowSet j h := by
  refine (View.set_reshape (v := commM.view.slice (rowRect j h)) squeezes_S1x1x256_S1x256.numel_eq).trans ?_
  exact View.set_slice_whole _ _

/-- Contents of `comm` that hold the row `t` in every row. -/
def rows (t : FVec F S1x1x256 .f32) : S4x1x256.Idx → Elt F .f32 :=
  fun i => t (fun a => match a with | 0 => ⟨0, by decide⟩ | 1 => ⟨0, by decide⟩ | 2 => ⟨(i 2).val, (i 2).isLt⟩)

/-- Those contents at a place of row `j` are the row's number there. -/
theorem rows_at (j : ℕ) (h : RowIn j) (t : FVec F S1x1x256 .f32) (y : (rowRect j h).shape.Idx) :
    rows t ((rowRect j h).emb y) = t y := by
  unfold rows
  congr 1
  funext a
  apply Fin.ext
  fin_cases a
  · have := (y 0).isLt; simp at this ⊢; omega
  · have := (y 1).isLt; simp at this ⊢; omega
  · show 0 + 1 * (y 2).val = (y 2).val
    omega

/-- A load of row `j` reads the row. -/
theorem load_rows (j : ℕ) (h : RowIn j) (t : FVec F S1x1x256 .f32) :
    commM.view.readAt (Elt F) (rowRect j h).toLoadRect (rows t) = t :=
  funext fun y => rows_at j h t y

/-- A copy of one row over another leaves the target row holding the source's numbers. -/
theorem copy_rows (j k : ℕ) (hj : RowIn j) (hk : RowIn k) (t : FVec F S1x1x256 .f32) (f : S4x1x256.Idx → Elt F .f32)
    (i : S4x1x256.Idx) (hi : i ∈ rowSet j hj) :
    (rowM j hj).view.write (Elt F) f ((rowM k hk).view.read (Elt F) (rows t)) Finset.univ i = rows t i := by
  rw [← rowM_set] at hi
  obtain ⟨x, -, rfl⟩ := Finset.mem_map.mp hi
  rw [View.write_emb_of_mem _ _ (Finset.mem_univ _)]
  show rows t ((rowRect k hk).emb (Shape.reshapeEquiv squeezes_S1x1x256_S1x256.numel_eq x))
    = rows t ((rowRect j hj).emb (Shape.reshapeEquiv squeezes_S1x1x256_S1x256.numel_eq x))
  exact (rows_at k hk t _).trans (rows_at j hj t _).symm

/-- A store of `t` in row `j` leaves the row holding `t`. -/
theorem store_rows (j : ℕ) (h : RowIn j) (t : FVec F S1x1x256 .f32) (f : S4x1x256.Idx → Elt F .f32)
    (i : S4x1x256.Idx) (hi : i ∈ rowSet j h) :
    (commM.access (rowRect j h)).write (Elt F) f t Finset.univ i = rows t i := by
  replace hi : i ∈ ((View.whole cc0_scratch1).slice (rowRect j h)).set := by rw [View.set_slice_whole]; exact hi
  obtain ⟨x, -, rfl⟩ := Finset.mem_map.mp hi
  exact (View.write_emb_of_mem (v := (View.whole cc0_scratch1).slice (rowRect j h)) _ _ (Finset.mem_univ _)).trans
    (rows_at j h t x).symm

/-! ## Semaphores -/

/-- The runtime's barrier semaphore. -/
abbrev barS : Sem sig := (SemArray.scalar (sig.barrier 0 rfl) : Sems sig S_).sem

/-- The semaphores of the copies: `sendQ j` counts the departure of the copy to row `j` (of the device `j + 1` ahead),
    `recvQ j` the arrival of a row in row `j`, `outQ` the copy of the sums to main memory. -/
def sendQ (j : Fin 3) : DmaSem sig := ⟨1 + j.val, by have := j.isLt; show 1 + j.val < 8; omega⟩
def recvQ (j : Fin 3) : DmaSem sig := ⟨4 + j.val, by have := j.isLt; show 4 + j.val < 8; omega⟩
def outQ : DmaSem sig := ⟨7, by decide⟩

/-- The kernel's own names for them. -/
theorem send0_eq : (((cc0_scratch2.slice (Rect.unit (s := S3) ![0] S1.size inb_S3_S1_0)).squeeze S_ squeezes_S1_S_ : DmaSems sig S_)).sem = sendQ 0 := by decide
theorem send1_eq : (((cc0_scratch2.slice (Rect.unit (s := S3) ![1] S1.size inb_S3_S1_1)).squeeze S_ squeezes_S1_S_ : DmaSems sig S_)).sem = sendQ 1 := by decide
theorem send2_eq : (((cc0_scratch2.slice (Rect.unit (s := S3) ![2] S1.size inb_S3_S1_2)).squeeze S_ squeezes_S1_S_ : DmaSems sig S_)).sem = sendQ 2 := by decide
theorem recv0_eq : (((cc0_scratch3.slice (Rect.unit (s := S3) ![0] S1.size inb_S3_S1_0)).squeeze S_ squeezes_S1_S_ : DmaSems sig S_)).sem = recvQ 0 := by decide
theorem recv1_eq : (((cc0_scratch3.slice (Rect.unit (s := S3) ![1] S1.size inb_S3_S1_1)).squeeze S_ squeezes_S1_S_ : DmaSems sig S_)).sem = recvQ 1 := by decide
theorem recv2_eq : (((cc0_scratch3.slice (Rect.unit (s := S3) ![2] S1.size inb_S3_S1_2)).squeeze S_ squeezes_S1_S_ : DmaSems sig S_)).sem = recvQ 2 := by decide
theorem out_eq : (cc0_scratch4 : DmaSems sig S_).sem = outQ := by decide

end Cert.PrefixSum

end
-- ==== Proof.Schedule.lean ====
/-
# The schedule: what each semaphore counts and what its units hand over

Every device has eight semaphore cells: the runtime's barrier (number 0), the departures of its three copies (1, 2, 3),
the arrivals of the three rows it gets (4, 5, 6), and its copy of the sums to main memory (7). Each is used for one round.

* The barrier of a device gets one unit from each of the other three. A unit hands over one row of the sender's exchange
  buffer, which the receiver may then fill.
* An arrival hands a device its row `j`, filled with the total of the device `3 - j` places ahead.
* A departure gives back the part of row 3 that the copy was reading.
* The last cell gives back the block of sums and the result's block, now equal.
-/
module

public import proofs.«01_k».proof.Proof.Exchange
public import Idealize.ShloMosaic.Lib.Ring.Trips

@[expose] public section

noncomputable section

namespace Cert.PrefixSum

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resources -/

abbrev UX : Type := URounds (GSem nD τ sig) (Fin 3)
abbrev UU : Type := UR sig nD τ × UX

local notation "𝕄" => MT nD τ sig Unit (Elt F) ℕ UU ℕ

abbrev EP : Emb (UR sig nD τ) (MT nD τ sig Unit (Elt F) ℕ UU ℕ) := embL
abbrev EX : Emb UX (MT nD τ sig Unit (Elt F) ℕ UU ℕ) := embR

variable (m : (ℓ : Loc nD τ sig) → Buf (Elt F) ℓ)

/-! ## Contents -/

/-- The block of `x` on device `c`. -/
def xAt (c : Dev nD) : FVec F S256x256 .bf16 :=
  (win0_0.blk (0 : Fin 1)).view.read (Elt F) (m ((c : Thread nD τ).loc main_arg0))

/-- The device's own number, as the kernel computes it. -/
def place (c : Dev nD) : BitVec 32 := Scalar.remsi (Scalar.divsi (Dev.word c) 1#32) 4#32

/-- The total of each column of the block. -/
def tot (c : Dev nD) : FVec F S1x1x256 .f32 := k0_pay2 (xAt m c)

/-- The running sums inside the block. -/
def csum (c : Dev nD) : FVec F S256x256 .bf16 := k0_pay3 (k0_pay1 (xAt m c))

/-- What has been carried from the device behind, and from the two devices behind. -/
def carry1 (c : Dev nD) : FVec F S1x256 .f32 := k0_pay5 (place c) k0_pay4 (tot m (hop 3 c))
def carry2 (c : Dev nD) : FVec F S1x256 .f32 :=
  k0_pay8 (carry1 m c) (k0_pay6 (tot m (hop 2 c))) (k0_pay7 (place c))

/-- The result's block: the running sums plus everything carried. -/
def outAt (c : Dev nD) : FVec F S256x256 .bf16 :=
  k0_pay10 (carry2 m c) (k0_pay9 (place c)) (tot m (hop 1 c)) (csum m c)

/-! ## Cells -/

/-- The eight semaphores of a device. -/
def semOf (k : Fin 8) : SemLoc sig := if k = 0 then .reg barS else .dma k
/-- Semaphore `k` of device `c`. -/
abbrev cell (c : Dev nD) (k : Fin 8) : GSem nD τ sig := ((c : Thread nD τ), semOf k)

theorem cell_injective : Function.Injective fun ck : Dev nD × Fin 8 => cell ck.1 ck.2 := by
  rintro ⟨c, k⟩ ⟨c', k'⟩ h
  have h1 : c = c' := congrArg (fun g : GSem nD τ sig => g.1.1) h
  have h2 : semOf k = semOf k' := congrArg Prod.snd h
  have h3 : k = k' := by clear h h1; revert h2; revert k k'; decide
  rw [h1, h3]

theorem cell_eq_iff {c c' : Dev nD} {k k' : Fin 8} : cell c k = cell c' k' ↔ c = c' ∧ k = k' :=
  ⟨fun h => Prod.ext_iff.mp (cell_injective (a₁ := (c, k)) (a₂ := (c', k')) h), fun ⟨h, h'⟩ => by rw [h, h']⟩

/-- The units of one row's copy, and of the copy of the sums. -/
abbrev N : ℕ := (rowM 0 (rowIn 0)).view.dmaCredit
abbrev Nout : ℕ := outM.view.dmaCredit
theorem N_pos : 0 < N := View.dmaCredit_pos _ (by decide)
theorem Nout_pos : 0 < Nout := View.dmaCredit_pos _ (by decide)

/-! ## What the units hand over -/

/-- Row `j` of `comm` on device `c` at share `q`, holding `f` there. -/
@[irreducible] def rowAt (c : Dev nD) (j : Fin 4) (q : PosShare TreeShare) (f : S4x1x256.Idx → Elt F .f32) : sProp 𝕄 :=
  commLoc c ↦[rowSet j.val (rowIn j)]{q} f

/-- What duty `d` of a barrier hands over: row `d` of the device `d + 1` ahead, whatever it holds. -/
def barPay (c : Dev nD) (d : Fin 3) : sProp 𝕄 :=
  iprop(∃ f, rowAt (F := F) (hop (d.val + 1) c) d.castSucc fullShare f)
/-- What an arrival hands over. -/
def recvPay (c : Dev nD) (j : Fin 3) : sProp 𝕄 :=
  rowAt c j.castSucc fullShare (rows (tot m (hop (3 - j.val) c)))
/-- What a departure gives back. -/
def sendPay (c : Dev nD) (j : Fin 3) : sProp 𝕄 := rowAt c 3 (Ring.shares3 fullShare j) (rows (tot m c))
/-- What the copy to main memory gives back. -/
def outPay (c : Dev nD) : sProp 𝕄 := iprop((outLoc c ↦{fullShare} outAt m c) ∗ sumLoc c ↦{fullShare} outAt m c)

/-- The payload of cell `k`, duty `d`. -/
def payOf (c : Dev nD) (k : Fin 8) (d : Fin 3) : sProp 𝕄 :=
  match k with
  | 0 => barPay c d
  | 1 => sendPay m c 0 | 2 => sendPay m c 1 | 3 => sendPay m c 2
  | 4 => recvPay m c 0 | 5 => recvPay m c 1 | 6 => recvPay m c 2
  | 7 => outPay m c

/-- The duties of semaphore `k` : three for the barrier, one for each of the others. -/
def dutiesOf (k : Fin 8) : Finset (Fin 3) := if k = 0 then Finset.univ else {0}
/-- The units of a duty of semaphore `k`. -/
def amountOf (k : Fin 8) : ℕ := if k = 0 then 1 else if k = 7 then Nout else N
theorem amountOf_pos (k : Fin 8) : 0 < amountOf k := by
  unfold amountOf; split
  · exact Nat.one_pos
  · split; · exact Nout_pos
    exact N_pos

/-- The number of a semaphore among the eight; the staging semaphore and any other have none. -/
def numOf : SemLoc sig → Option (Fin 8)
  | .reg s => if s = barS then some 0 else none
  | .dma q => if q.val = 0 then none else some q

theorem numOf_semOf (k : Fin 8) : numOf (semOf k) = some k := by revert k; decide

def sched : Rounds.Schedule (GSem nD τ sig) (Fin 3) 𝕄 where
  duties g r := if r = 0 ∧ g.1.2 = .tc then ((numOf g.2).map dutiesOf).getD ∅ else ∅
  unitless _ := False
  amount g _ _ := ((numOf g.2).map amountOf).getD 1
  payload g _ d := ((numOf g.2).map fun k => payOf m g.1.1 k d).getD iprop(emp)
  amount_pos g _ _ _ := by
    cases numOf g.2 with
    | none => exact Nat.one_pos
    | some k => exact amountOf_pos k

instance rowAt_storable (c : Dev nD) (j : Fin 4) (q) (f) : BI.Storable (upEmb : UEmb _ 𝕄) (rowAt (F := F) c j q f) := by
  unfold rowAt; infer_instance
instance payOf_storable (c : Dev nD) (k : Fin 8) (d : Fin 3) : BI.Storable (upEmb : UEmb _ 𝕄) (payOf m c k d) := by
  unfold payOf barPay sendPay recvPay outPay
  split <;> infer_instance
instance sched_storable (g : GSem nD τ sig) (r : ℕ) (d : Fin 3) :
    BI.Storable (upEmb : UEmb _ 𝕄) ((sched (F := F) m).payload g r d) := by
  show BI.Storable upEmb (((numOf g.2).map fun k => payOf m g.1.1 k d).getD iprop(emp))
  cases numOf g.2 with
  | none => show BI.Storable upEmb iprop(emp); infer_instance
  | some k => show BI.Storable upEmb (payOf m g.1.1 k d); infer_instance

/-! ## The schedule at a cell -/

section At
variable (c : Dev nD) (k : Fin 8)

theorem duties_at : (sched (F := F) m).duties (cell c k) 0 = dutiesOf k := by
  show (if 0 = 0 ∧ (cell c k).1.2 = .tc then ((numOf (semOf k)).map dutiesOf).getD ∅ else ∅) = _
  rw [if_pos ⟨rfl, rfl⟩, numOf_semOf]; rfl
theorem duties_after (g : GSem nD τ sig) : ∀ r, 1 ≤ r → (sched (F := F) m).duties g r = ∅ :=
  fun r hr => if_neg fun h => by omega
theorem amount_at (d : Fin 3) : (sched (F := F) m).amount (cell c k) 0 d = amountOf k := by
  show ((numOf (semOf k)).map amountOf).getD 1 = _
  rw [numOf_semOf]; rfl
theorem payload_at (d : Fin 3) : (sched (F := F) m).payload (cell c k) 0 d = payOf m c k d := by
  show ((numOf (semOf k)).map fun k => payOf m c k d).getD iprop(emp) = _
  rw [numOf_semOf]; rfl

/-- The units of one round: three at the barrier, one copy's units at each of the others. -/
theorem expect_at : (sched (F := F) m).expect (cell c k) 0 = if k = 0 then 3 else amountOf k := by
  unfold Schedule.expect Schedule.amountOf
  rw [duties_at, Finset.sum_congr rfl fun d _ => amount_at m c k d, Finset.sum_const, smul_eq_mul]
  unfold dutiesOf
  split
  · rename_i h; subst h; rfl
  · rw [Finset.card_singleton, one_mul]

/-- What a whole round hands over: at the barrier three rows, -/
theorem rest_bar :
    bigSep ((sched (F := F) m).duties (cell c 0) 0 \ ∅) (fun d => (sched (F := F) m).payload (cell c 0) 0 d)
      = iprop(barPay c 0 ∗ barPay c 1 ∗ barPay c 2) := by
  rw [Finset.sdiff_empty, duties_at, bigSep_congr fun d _ => payload_at m c 0 d]
  exact bigSep_univ_eq_bigSepL [0, 1, 2] (by decide) (by decide) _
/-- at any other cell the one payload. -/
theorem rest_one (hk : k ≠ 0) :
    bigSep ((sched (F := F) m).duties (cell c k) 0 \ ∅) (fun d => (sched (F := F) m).payload (cell c k) 0 d)
      = payOf m c k 0 := by
  rw [Finset.sdiff_empty, duties_at, bigSep_congr fun d _ => payload_at m c k d, dutiesOf, if_neg hk, bigSep_singleton]

end At

/-! ## What each device owes at launch, and the order of waits -/

/-- The debt of device `c` of `n` units to semaphore `k` of the device `a` ahead. -/
abbrev due (a : ℕ) (k : Fin 8) (n : ℕ) (c : Dev nD) : CellTallies nD τ sig Unit := tallyAt (cell (hop a c) k) () n

/-- The three arrivals owed, and before them the three signals. The last summand is paid first. -/
def owed1 (c : Dev nD) : CellTallies nD τ sig Unit := due 3 6 N c
def owed2 (c : Dev nD) : CellTallies nD τ sig Unit := owed1 c + due 2 5 N c
def owed3 (c : Dev nD) : CellTallies nD τ sig Unit := owed2 c + due 1 4 N c
def owed4 (c : Dev nD) : CellTallies nD τ sig Unit := owed3 c + due 3 0 1 c
def owed5 (c : Dev nD) : CellTallies nD τ sig Unit := owed4 c + due 2 0 1 c
def owed6 (c : Dev nD) : CellTallies nD τ sig Unit := owed5 c + due 1 0 1 c

/-- Barriers are at level 1, arrivals at level 2, everything else at level 0. -/
def lv (g : GSem nD τ sig) (_ : Unit) : ℕ :=
  match g.2 with
  | .reg _ => 1
  | .dma q => if 4 ≤ q.val ∧ q.val ≤ 6 then 2 else 0
def L (g : GSem nD τ sig) : Finset Unit := if g.1.2 = .tc then {()} else ∅
theorem L_of_ne (g : GSem nD τ sig) (h : g.1.2 ≠ .tc) : L g = ∅ := if_neg h

theorem pos_due {a : ℕ} {k : Fin 8} {n : ℕ} {c : Dev nD} {O : CellTallies nD τ sig Unit} {g : GSem nD τ sig} {u : Unit}
    (h : 0 < (O + due a k n c) g u) : 0 < O g u ∨ g = cell (hop a c) k := by
  by_cases e : g = cell (hop a c) k
  · exact Or.inr e
  · rw [Pi.add_apply, Finsupp.add_apply, tallyAt_apply, if_neg (fun h' => e h'.1), Nat.add_zero] at h
    exact Or.inl h

/-- After the signals a device owes arrivals only; -/
theorem pos_owed3 {c : Dev nD} {g : GSem nD τ sig} {u : Unit} (h : 0 < owed3 c g u) :
    ∃ d k, g = cell d k ∧ 4 ≤ k.val ∧ k.val ≤ 6 := by
  rcases pos_due h with h | h
  · rcases pos_due h with h | h
    · have h : 0 < ((0 : CellTallies nD τ sig Unit) + due 3 6 N c) g u := by rw [zero_add]; exact h
      rcases pos_due h with h | h
      · exact absurd h (Nat.lt_irrefl 0)
      · exact ⟨_, _, h, by decide, by decide⟩
    · exact ⟨_, _, h, by decide, by decide⟩
  · exact ⟨_, _, h, by decide, by decide⟩
/-- at launch, arrivals and signals. -/
theorem pos_owed6 {c : Dev nD} {g : GSem nD τ sig} {u : Unit} (h : 0 < owed6 c g u) :
    ∃ d k, g = cell d k ∧ (k = 0 ∨ 4 ≤ k.val ∧ k.val ≤ 6) := by
  rcases pos_due h with h | h
  · rcases pos_due h with h | h
    · rcases pos_due h with h | h
      · obtain ⟨d, k, hg, hk⟩ := pos_owed3 h
        exact ⟨d, k, hg, Or.inr hk⟩
      · exact ⟨_, _, h, Or.inl rfl⟩
    · exact ⟨_, _, h, Or.inl rfl⟩
  · exact ⟨_, _, h, Or.inl rfl⟩

theorem lv_cell (d : Dev nD) (k : Fin 8) : lv (cell d k) () = if k = 0 then 1 else if 4 ≤ k.val ∧ k.val ≤ 6 then 2 else 0 := by
  show (match semOf k with | .reg _ => 1 | .dma q => if 4 ≤ q.val ∧ q.val ≤ 6 then 2 else 0) = _
  revert k; decide

/-- A device may wait at a semaphore whose level lies below those of all it owes. -/
theorem mayWait_below (c : Dev nD) (sm : SemLoc sig) (b : ℕ) (O : CellTallies nD τ sig Unit)
    (hsm : lv ((c : Thread nD τ), sm) () ≤ b) (hO : ∀ g u, 0 < O g u → g.1.2 = .tc ∧ b < lv g ()) :
    (levAts L lv : sProp 𝕄) ⊢ MayWait (c : Thread nD τ) sm () O :=
  MayOwe.of_cut (L := L) (lev := lv) b
    (fun p hp => by rw [Finset.mem_singleton.mp hp]; exact Finset.mem_singleton_self _)
    (fun g u hg => by unfold L; rw [if_pos (hO g u hg).1]; exact Finset.mem_singleton_self _)
    (fun p hp => by rw [Finset.mem_singleton.mp hp]; exact hsm)
    (fun g u hg => (hO g u hg).2)

/-- The wait at the barrier, owing the three arrivals; -/
theorem mayWait_bar (c : Dev nD) : (levAts L lv : sProp 𝕄) ⊢ MayWait (c : Thread nD τ) (semOf 0) () (owed3 c) :=
  mayWait_below c _ 1 _ (by rw [lv_cell]; decide) fun g u hg => by
    obtain ⟨d, k, rfl, hk⟩ := pos_owed3 hg
    exact ⟨rfl, by rw [lv_cell, if_neg (fun h => by subst h; simp at hk), if_pos hk]; decide⟩
/-- the staging waits, owing everything or nothing. -/
theorem mayWait_stage (c : Dev nD) (O : CellTallies nD τ sig Unit) (hO : O = owed6 c ∨ O = 0) :
    (levAts L lv : sProp 𝕄) ⊢ MayWait (c : Thread nD τ) (.dma (0 : Fin 8)) () O := by
  rcases hO with rfl | rfl
  · refine mayWait_below c _ 0 _ (Nat.le_refl 0) fun g u hg => ?_
    obtain ⟨d, k, rfl, hk⟩ := pos_owed6 hg
    refine ⟨rfl, ?_⟩
    rw [lv_cell]
    rcases hk with rfl | hk
    · decide
    · rw [if_neg (fun h => by subst h; simp at hk), if_pos hk]; decide
  · rw [MayWait_zero]; iintro -; iempintro

end Cert.PrefixSum

end
-- ==== Proof.Steps.lean ====
/-
# The steps of the body

What one device holds of the schedule, and the program's effects at the schedule's cells, each proved once: a signal
handing over a row, a copy of the total into a row of another device, a wait at one of the device's own cells, a load
and a store of a row; and how the exchange buffer comes apart into its rows and together again.
-/
module

public import proofs.«01_k».proof.Proof.Schedule

@[expose] public section

noncomputable section

namespace Cert.PrefixSum

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

abbrev 𝒱₀ : Variants := Variants.none

/-! ## What a device holds of the schedule -/

/-- All cells are set up, under the names `K`, and at round 0. -/
def records (K : Dev nD × Fin 8 → ℕ) : sProp 𝕄 :=
  iprop((bigSep Finset.univ fun ck : Dev nD × Fin 8 => cellInv EX (sched m) (K ck) (cell ck.1 ck.2))
    ∗ bigSep Finset.univ fun ck : Dev nD × Fin 8 => reached EX (cell ck.1 ck.2) 0)

instance records_persistent (K : Dev nD × Fin 8 → ℕ) : BI.Persistent (records m K) := by unfold records; infer_instance

theorem record (K : Dev nD × Fin 8 → ℕ) (c : Dev nD) (k : Fin 8) :
    records m K ⊢ iprop(cellInv EX (sched m) (K (c, k)) (cell c k) ∗ reached EX (cell c k) 0) :=
  BI.sep_mono (bigSep_elim (Φ := fun ck : Dev nD × Fin 8 => (cellInv EX (sched m) (K ck) (cell ck.1 ck.2) : sProp 𝕄)) (Finset.mem_univ (c, k)))
    (bigSep_elim (Φ := fun ck : Dev nD × Fin 8 => (reached EX (cell ck.1 ck.2) 0 : sProp 𝕄)) (Finset.mem_univ (c, k)))

/-- The tokens of the duties of a device's own cells, numbered: three of its barrier, one of each other cell. -/
def tokCell (i : Fin 10) : Fin 8 := ⟨i.val - 2, by have := i.isLt; omega⟩
def tokDuty (i : Fin 10) : Fin 3 := if h : i.val < 3 then ⟨i.val, h⟩ else 0
/-- How many places ahead the cell lies whose `i`-th token a device is dealt: it pays there. -/
def ahead (i : Fin 10) : Fin 4 := ![3, 2, 1, 0, 0, 0, 1, 2, 3, 0] i

def tok (c : Dev nD) (i : Fin 10) : sProp 𝕄 := dutyTok EX (cell c (tokCell i)) 0 (tokDuty i)

theorem bigSep_fin8 (Φ : Fin 8 → sProp 𝕄) :
    bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ
theorem bigSep_fin10 (Φ : Fin 10 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9) :=
  bigSep_univ_eq_bigSepL [0, 1, 2, 3, 4, 5, 6, 7, 8, 9] (by decide) (by decide) Φ

/-- What a device holds of the schedule at launch: the records, its place at each of its own cells, the tokens of the
    duties it pays. -/
def ghost (K : Dev nD × Fin 8 → ℕ) (c : Dev nD) : sProp 𝕄 :=
  iprop(records m K ∗ (bigSep Finset.univ fun k : Fin 8 => atPos EX (cell c k) 0 ∅ 0)
    ∗ bigSep Finset.univ fun i : Fin 10 => tok (hop (ahead i).val c) i)

/-! ## The rows of the exchange buffer -/

/-- The buffer held whole is held row by row; -/
theorem comm_rows (c : Dev nD) (f : S4x1x256.Idx → Elt F .f32) :
    (commLoc c ↦{fullShare} f : sProp 𝕄)
      = iprop(rowAt c 0 fullShare f ∗ rowAt c 1 fullShare f ∗ rowAt c 2 fullShare f ∗ rowAt c 3 fullShare f) := by
  rw [Ring.pointsTo_blocks (ℓ := commLoc c) (fun j : Fin 4 => rowSet j.val (rowIn j)) ?_ ?_ f]
  · unfold rowAt
    exact bigSep_univ_eq_bigSepL [0, 1, 2, 3] (by decide) (by decide) _
  · intro i j hij
    refine Finset.disjoint_left.mpr fun x hx hx' => hij (Fin.ext ?_)
    exact (mem_rowSet.mp hx).symm.trans (mem_rowSet.mp hx')
  · refine Finset.eq_univ_of_forall fun x => Finset.mem_biUnion.mpr ⟨⟨(x 0).val, (x 0).isLt⟩, Finset.mem_univ _, ?_⟩
    exact mem_rowSet.mpr rfl

/-- and rows held at contents of their own make the buffer held at some contents. -/
theorem rows_comm (c : Dev nD) (f : Fin 4 → S4x1x256.Idx → Elt F .f32) :
    iprop(rowAt c 0 fullShare (f 0) ∗ rowAt c 1 fullShare (f 1) ∗ rowAt c 2 fullShare (f 2) ∗ rowAt c 3 fullShare (f 3))
      ⊢ (iprop(∃ f, commLoc c ↦{fullShare} f) : sProp 𝕄) := by
  obtain ⟨g, hg⟩ : ∃ g : S4x1x256.Idx → Elt F .f32, ∀ j : Fin 4, (rowAt c j fullShare (f j) : sProp 𝕄) = rowAt c j fullShare g := by
    refine ⟨fun x => f ⟨(x 0).val, (x 0).isLt⟩ x, fun j => ?_⟩
    unfold rowAt
    refine pointsTo_congr fun x hx => ?_
    have : (⟨(x 0).val, (x 0).isLt⟩ : Fin 4) = j := Fin.ext (mem_rowSet.mp hx)
    exact (congrArg (fun k => f k x) this).symm
  rw [hg 0, hg 1, hg 2, hg 3, ← comm_rows]
  iintro H
  iexists g
  iexact H

/-- A row is held in three parts. -/
theorem row_thirds (c : Dev nD) (f : S4x1x256.Idx → Elt F .f32) :
    (rowAt c 3 fullShare f : sProp 𝕄) ⊣⊢ iprop(rowAt c 3 (Ring.shares3 fullShare 0) f
      ∗ rowAt c 3 (Ring.shares3 fullShare 1) f ∗ rowAt c 3 (Ring.shares3 fullShare 2) f) :=
  by
  unfold rowAt
  exact Ring.pointsTo_thirds (ℓ := commLoc c) (I := rowSet 3 (rowIn 3)) (Name := ℕ) (U := UU) (Lvl := ℕ) (Ix := Unit) fullShare f

section Effects

/-- Device `c` runs `p` to the end, and there `Q` holds. -/
abbrev runs (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

variable (c : Dev nD)

/-- A load of row `j`. -/
theorem wp_load_row {α : Type} {Q : α → sProp 𝕄} (j : Fin 4) (t : FVec F S1x1x256 .f32) {hl : commM.view.LoadsAt (rowRect j.val (rowIn j)).toLoadRect}
    {k : (S1x1x256.Idx → Elt F .f32) → Prog (TpuEff nD τ sig (Elt F) Λ₀ .tc) α} :
    (rowAt c j fullShare (rows t) : sProp 𝕄)
      ⊢ iprop((rowAt c j fullShare (rows t) -∗ runs c (k t) Q)
          -∗ runs c (.op (.load commM (rowRect j.val (rowIn j)).toLoadRect hl) k) Q) := by
  have h := wp_load_rect (defs := defs₀ (F := F)) (Γ := []) 𝒱₀ (c : Thread nD τ) none Set.univ (m := commM) (r := rowRect j.val (rowIn j)) (hl := hl) (k := k) (Q := Q)
    (S := rowSet j.val (rowIn j)) (q := fullShare) (f := rows t) (View.set_slice_whole cc0_scratch1 (rowRect j.val (rowIn j))).le
  have e : (commM.access (rowRect j.val (rowIn j))).read (Elt F) (rows t) = t := load_rows j.val (rowIn j) t
  rw [e] at h
  unfold rowAt
  exact h

/-- The load whose value is not used. -/
theorem wp_load_row_any {α : Type} {Q : α → sProp 𝕄} (j : Fin 4) (f : S4x1x256.Idx → Elt F .f32) {hl : commM.view.LoadsAt (rowRect j.val (rowIn j)).toLoadRect}
    {k : (S1x1x256.Idx → Elt F .f32) → Prog (TpuEff nD τ sig (Elt F) Λ₀ .tc) α} :
    (rowAt c j fullShare f : sProp 𝕄)
      ⊢ iprop((rowAt c j fullShare f -∗ runs c (k (commM.view.readAt (Elt F) (rowRect j.val (rowIn j)).toLoadRect f)) Q)
          -∗ runs c (.op (.load commM (rowRect j.val (rowIn j)).toLoadRect hl) k) Q) := by
  unfold rowAt
  exact wp_load_rect (defs := defs₀ (F := F)) (Γ := []) 𝒱₀ (c : Thread nD τ) none Set.univ (m := commM) (r := rowRect j.val (rowIn j))
    (View.set_slice_whole cc0_scratch1 (rowRect j.val (rowIn j))).le

/-- A store of a row. -/
theorem wp_store_row {α : Type} {Q : α → sProp 𝕄} (j : Fin 4) (t : FVec F S1x1x256 .f32) (f : S4x1x256.Idx → Elt F .f32)
    {hx : (commM.access (rowRect j.val (rowIn j))).Stores Finset.univ} {hm}
    {k : PUnit → Prog (TpuEff nD τ sig (Elt F) Λ₀ .tc) α} :
    (rowAt c j fullShare f : sProp 𝕄)
      ⊢ iprop((rowAt c j fullShare (rows t) -∗ runs c (k ⟨⟩) Q)
          -∗ runs c (.op (.store commM (rowRect j.val (rowIn j)) t Finset.univ hx hm) k) Q) := by
  have h := wp_store (defs := defs₀ (F := F)) (Γ := []) 𝒱₀ (c : Thread nD τ) none Set.univ (m := commM) (r := rowRect j.val (rowIn j)) (w := t) (Mk := Finset.univ) (hx := hx) (hm := hm) (k := k) (Q := Q)
    (S := rowSet j.val (rowIn j)) (f := f) (View.set_slice_whole cc0_scratch1 (rowRect j.val (rowIn j))).le
  have e := pointsTo_congr (Ix := Unit) (Name := ℕ) (U := UU) (Lvl := ℕ) (ℓ := commLoc c) (q := fullShare) (I := rowSet j.val (rowIn j)) (f := (commM.access (rowRect j.val (rowIn j))).write (Elt F) f t Finset.univ)
    (g := rows t) fun i hi => store_rows j.val (rowIn j) t f i hi
  unfold rowAt
  rw [← e]
  exact h

/-- Row `d` of a device is what duty `d` of the barrier of the device `3 - d` ahead hands over. -/
theorem bar_row (d : Fin 3) (f : S4x1x256.Idx → Elt F .f32) :
    rowAt c d.castSucc fullShare f ⊢ (sched m).payload (cell (hop (3 - d.val) c) 0) 0 d := by
  rw [payload_at, show payOf m (hop (3 - d.val) c) 0 d = barPay (hop (3 - d.val) c) d from rfl]
  unfold barPay
  rw [hop_hop, show 3 - d.val + (d.val + 1) = 4 by have := d.isLt; omega, hop_four]
  iintro H
  iexists f
  iexact H

/-- The signal to the device `3 - d` ahead pays duty `d` of its barrier and hands it row `d`. -/
theorem wp_signal_row {α : Type} {Q : α → sProp 𝕄} (K : Dev nD × Fin 8 → ℕ) (d : Fin 3) (n : Dev nD) (hn : n = hop (3 - d.val) c)
    (f : S4x1x256.Idx → Elt F .f32) (O : CellTallies nD τ sig Unit) (W : Waits sig Unit)
    {k : PUnit → Prog (TpuEff nD τ sig (Elt F) Λ₀ .tc) α} :
    iprop(records m K ∗ owes (c : Thread nD τ) (O + due (3 - d.val) 0 1 c) W
        ∗ dutyTok EX (cell (hop (3 - d.val) c) 0) 0 d ∗ rowAt c d.castSucc fullShare f)
      ⊢ iprop((owes (c : Thread nD τ) O W -∗ runs c (k ⟨⟩) Q)
          -∗ runs c (.op (.semSignal (n : Thread nD τ) barS 1) k) Q) := by
  subst hn
  iintro ⟨#HR, HO, Ht, Hrow⟩ Hk
  ihave #Hr := (record m K (hop (3 - d.val) c) 0) $$ HR
  icases Hr with ⟨#HI, #Hat⟩
  iapply (Rounds.wp_signal 𝒱₀ EX (sched m) (c : Thread nD τ) none (dst := (hop (3 - d.val) c : Thread nD τ))
    (sem := barS) (κ := K (hop (3 - d.val) c, 0)) (d := d) (r := 0)
    (by rw [show ((hop (3 - d.val) c : Thread nD τ), SemLoc.reg barS) = cell (hop (3 - d.val) c) 0 from rfl, duties_at]; exact Finset.mem_univ _)
    (amount_at m (hop (3 - d.val) c) 0 d) () O rfl) $$ [HO Ht Hrow]
  · isplitr; · iexact HI
    isplitl [HO]; · iexact HO
    isplitl [Ht]; · iexact Ht
    isplitl [Hrow]
    · iapply (show _ ⊢ (sched m).payload ((hop (3 - d.val) c : Thread nD τ), SemLoc.reg barS) 0 d from bar_row m c d f); iexact Hrow
    iexact Hat
  iexact Hk

/-- The copy of the total into row `j` of the device `j + 1` ahead. -/
abbrev sendK (j : Fin 3) : Fin 8 := ⟨1 + j.val, by have := j.isLt; omega⟩
abbrev recvK (j : Fin 3) : Fin 8 := ⟨4 + j.val, by have := j.isLt; omega⟩

theorem pay_send (d : Dev nD) (j : Fin 3) : payOf m d (sendK j) 0 = sendPay m d j := by fin_cases j <;> rfl
theorem pay_recv (d : Dev nD) (j : Fin 3) : payOf m d (recvK j) 0 = recvPay m d j := by fin_cases j <;> rfl

/-- Departure: the part of row 3 comes back. -/
theorem sent (j : Fin 3) :
    (commLoc c ↦[(rowM 3 (rowIn 3)).view.set]{Ring.shares3 fullShare j} rows (tot m c))
      ⊢ (sched m).payload (cell c (sendK j)) 0 0 := by
  rw [payload_at, pay_send, rowM_set]; unfold sendPay rowAt; exact BI.Entails.refl _

/-- Arrival: the row written over holds the total. -/
theorem arrived (j : Fin 3) (f : S4x1x256.Idx → Elt F .f32) :
    (commLoc (hop (j.val + 1) c) ↦[(rowM j.val (rowIn j.castSucc)).view.set]{fullShare}
        (rowM j.val (rowIn j.castSucc)).view.write (Elt F) f ((rowM 3 (rowIn 3)).view.read (Elt F) (rows (tot m c))) Finset.univ)
      ⊢ (sched m).payload (cell (hop (j.val + 1) c) (recvK j)) 0 0 := by
  rw [payload_at, pay_recv, rowM_set]
  unfold recvPay rowAt
  rw [hop_hop, show j.val + 1 + (3 - j.val) = 4 by have := j.isLt; omega, hop_four]
  exact Entails.of_eq (pointsTo_congr fun i hi => copy_rows j.val 3 (rowIn j.castSucc) (rowIn 3) (tot m c) f i hi)

theorem wp_send_row {α : Type} {Q : α → sProp 𝕄} (K : Dev nD × Fin 8 → ℕ) (j : Fin 3) (n : Dev nD) (hn : n = hop (j.val + 1) c)
    (sS sR : SemLoc sig) (hS : sS = semOf (sendK j)) (hR : sR = semOf (recvK j))
    (f : S4x1x256.Idx → Elt F .f32) (O : CellTallies nD τ sig Unit) (W : Waits sig Unit)
    {hsc : (rowM j.val (rowIn j.castSucc)).view.ref.isScScratch = false}
    {hsrc : (rowM 3 (rowIn 3)).view.WordExact} {hdst : (rowM j.val (rowIn j.castSucc)).view.WordExact}
    {hsem : DmaTarget.Typed .vmem sR (.remote (Dev.tc n : Thread nD τ) (rowM j.val (rowIn j.castSucc)) sS hsc)}
    {k : PUnit → Prog (TpuEff nD τ sig (Elt F) Λ₀ .tc) α} :
    iprop(records m K ∗ rowAt c 3 (Ring.shares3 fullShare j) (rows (tot m c))
        ∗ rowAt (hop (j.val + 1) c) j.castSucc fullShare f
        ∗ owes (c : Thread nD τ) (O + due (j.val + 1) (recvK j) N c) W
        ∗ dutyTok EX (cell c (sendK j)) 0 0 ∗ dutyTok EX (cell (hop (j.val + 1) c) (recvK j)) 0 0)
      ⊢ iprop(((cred (tallyAt (cell c (sendK j)) () N) ∗ owes (c : Thread nD τ) O W) -∗ runs c (k ⟨⟩) Q)
          -∗ runs c (.op (.enqueueDma (rowM 3 (rowIn 3)) (.remote (Dev.tc n : Thread nD τ) (rowM j.val (rowIn j.castSucc)) sS hsc) sR hsrc hdst hsem) k) Q) := by
  subst hn hS hR
  have ha (k : Fin 8) (h : 1 ≤ k.val ∧ k.val ≤ 6) : amountOf k = N := by
    unfold amountOf
    rw [if_neg (fun e => by subst e; simp at h), if_neg (fun e => by subst e; simp at h)]
  have hj := j.isLt
  have hd (d : Dev nD) (k : Fin 8) : (0 : Fin 3) ∈ (sched (F := F) m).duties (cell d k) 0 := by
    rw [duties_at]; unfold dutiesOf; split
    · exact Finset.mem_univ _
    · exact Finset.mem_singleton_self _
  iintro ⟨#HR, Hsrc, Hdst, HO, HtS, HtR⟩ Hk
  ihave #Hr1 := (record m K c (sendK j)) $$ HR
  icases Hr1 with ⟨#HI1, #Hat1⟩
  ihave #Hr2 := (record m K (hop (j.val + 1) c) (recvK j)) $$ HR
  icases Hr2 with ⟨#HI2, #Hat2⟩
  iapply (Rounds.wp_send_pointsTo 𝒱₀ EX (sched m) (c : Thread nD τ) none (κ₁ := K (c, sendK j)) (κ₂ := K (hop (j.val + 1) c, recvK j))
    (c' := (hop (j.val + 1) c : Thread nD τ)) (src := rowM 3 (rowIn 3)) (dst := rowM j.val (rowIn j.castSucc)) (q := Ring.shares3 fullShare j)
    (fs := rows (tot m c)) (fd := f) (r₁ := 0) (r₂ := 0) (d₁ := 0) (d₂ := 0) (hd c (sendK j)) (hd (hop (j.val + 1) c) (recvK j)) () () N (by fin_cases j <;> rfl)
    ((amount_at m c (sendK j) 0).trans (ha _ ⟨by simp, by simp; omega⟩))
    ((amount_at m (hop (j.val + 1) c) (recvK j) 0).trans (ha _ ⟨by simp; omega, by simp; omega⟩)) O rfl
    (sent m c j) (arrived m c j f)) $$ [Hsrc Hdst HO HtS HtR]
  · rw [rowM_set, rowM_set]
    unfold rowAt
    isplitr; · iexact HI1
    isplitr; · iexact HI2
    isplitl [Hsrc]; · iexact Hsrc
    isplitl [Hdst]; · iexact Hdst
    isplitl [HO]; · iexact HO
    isplitl [HtS]; · iexact HtS
    isplitr; · iexact Hat1
    isplitl [HtR]; · iexact HtR
    iexact Hat2
  iexact Hk

/-- The wait at the barrier: three rows of other devices. -/
theorem wp_wait_bar {α : Type} {Q : α → sProp 𝕄} (K : Dev nD × Fin 8 → ℕ) (W : Waits sig Unit) {k : PUnit → Prog (TpuEff nD τ sig (Elt F) Λ₀ .tc) α} :
    iprop(records m K ∗ levAts L lv ∗ cred (tallyAt (cell c 0) () 3) ∗ owes (c : Thread nD τ) (owed3 c) W ∗ atPos EX (cell c 0) 0 ∅ 0)
      ⊢ iprop(((owes (c : Thread nD τ) (owed3 c) (insert (semOf 0, ()) W) ∗ atPos EX (cell c 0) 1 ∅ 0
              ∗ barPay c 0 ∗ barPay c 1 ∗ barPay c 2) -∗ runs c (k ⟨⟩) Q)
          -∗ runs c (.op (.semWait barS 3) k) Q) := by
  iintro ⟨#HR, #Hlev, Hc, HO, Hat⟩ Hk
  ihave #Hr := (record m K c 0) $$ HR
  icases Hr with ⟨#HI, #-⟩
  iapply (Rounds.wp_wait_rest_token 𝒱₀ EX (sched m) (c : Thread nD τ) none (κ := K (c, 0)) (sm := semOf 0) (k' := 3)
      (wpE_semWait_eq 𝒱₀ (c : Thread nD τ) none Set.univ) (Set.mem_univ _) () (O := owed3 c) (W := W) (R := 0) (m := 0) (T := ∅)
      (by rw [Nat.zero_add]; exact (expect_at m c 0).symm)) $$ [Hc HO Hat]
  · isplitr; · iexact HI
    isplitl [Hc]; · iexact Hc
    isplitl [HO]; · iexact HO
    isplitr; · iapply (mayWait_bar c); iexact Hlev
    iexact Hat
  iintro ⟨HO, Hat, -, Hpay⟩
  ihave Hp := (Entails.of_eq (rest_bar m c)) $$ Hpay
  iapply Hk
  isplitl [HO]; · iexact HO
  isplitl [Hat]; · iexact Hat
  iexact Hp

/-- The wait at a cell of one of its copies, owing nothing. -/
theorem wp_wait_copy {α : Type} {Q : α → sProp 𝕄} (K : Dev nD × Fin 8 → ℕ) (i : Fin 8) (hi : i ≠ 0) (q : DmaSem sig) (hq : SemLoc.dma q = semOf i)
    {sp sp' : Space} {s s' : Shape} {e e' : EltTy}
    {src : Memref sig .tc sp' s' e'} {dst : Memref sig .tc sp s e} {hsrc : src.view.WordExact} {hdst : dst.view.WordExact}
    (hN : dst.view.dmaCredit = amountOf i) (W : Waits sig Unit) {k : PUnit → Prog (TpuEff nD τ sig (Elt F) Λ₀ .tc) α} :
    iprop(records m K ∗ cred (tallyAt (cell c i) () (amountOf i)) ∗ owes (c : Thread nD τ) 0 W ∗ atPos EX (cell c i) 0 ∅ 0)
      ⊢ iprop(((owes (c : Thread nD τ) 0 (insert (semOf i, ()) W) ∗ atPos EX (cell c i) 1 ∅ 0 ∗ payOf m c i 0) -∗ runs c (k ⟨⟩) Q)
          -∗ runs c (.op (.waitDma2 q src dst hsrc hdst) k) Q) := by
  iintro ⟨#HR, Hc, HO, Hat⟩ Hk
  ihave #Hr := (record m K c i) $$ HR
  icases Hr with ⟨#HI, #-⟩
  iapply (Rounds.wp_wait_rest_token 𝒱₀ EX (sched m) (c : Thread nD τ) none (κ := K (c, i)) (sm := semOf i) (k' := amountOf i)
      (fun P => by rw [wpE_waitDma2_eq, hq, hN]) (Set.mem_univ _) () (O := 0) (W := W) (R := 0) (m := 0) (T := ∅)
      (by rw [Nat.zero_add, expect_at, if_neg hi])) $$ [Hc HO Hat]
  · isplitr; · iexact HI
    isplitl [Hc]; · iexact Hc
    isplitl [HO]; · iexact HO
    isplitr; · rw [MayWait_zero]; iempintro
    iexact Hat
  iintro ⟨HO, Hat, -, Hpay⟩
  ihave Hp := (Entails.of_eq (rest_one m c i hi)) $$ Hpay
  iapply Hk
  isplitl [HO]; · iexact HO
  isplitl [Hat]; · iexact Hat
  iexact Hp

end Effects

/-- After its round a device's cells are closed, their counters at zero. -/
theorem close_cells (K : Dev nD × Fin 8 → ℕ) (c : Dev nD) :
    iprop(records m K ∗ bigSep Finset.univ fun k : Fin 8 => atPos EX (cell c k) 1 ∅ 0)
      ⊢ iprop(|={Set.univ}=> bigSep Finset.univ fun k : Fin 8 => (semVal (cell c k) 0 : sProp 𝕄)) := by
  refine ((sep_mono_left (BI.bigSep_of_persistent (Finset.univ : Finset (Fin 8)) (records m K))).trans ?_).trans (bigSep_fupd _ _)
  rw [← bigSep_sep']
  refine bigSep_mono fun k _ => ?_
  refine (sep_mono_left ((record m K c k).trans sep_elim_left)).trans ?_
  exact Rounds.cell_close EX (sched m) (Set.mem_univ (K (c, k))) (fun h => h) (R := 1) (duties_after m (cell c k))

end Cert.PrefixSum

end
-- ==== Proof.Body.lean ====
/-
# The body of the kernel

One device's run of the body, effect by effect in program order: the three signals, the total, the wait at the barrier,
the three copies, the running sums, the three arrivals with what they add, the copy to main memory, and the waits that
end the copies. It is proved for any device and any float values.
-/
module

public import proofs.«01_k».proof.Proof.Steps

@[expose] public section

noncomputable section

namespace Cert.PrefixSum

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Before and after -/

/-- Before: the schedule's part, the credit for the arrivals and the signals, the levels, and the result's block as it
    was at launch; -/
def start (c : Dev nD) : sProp 𝕄 :=
  iprop((∃ K, ghost m K c) ∗ cred (tallyAt (cell c 0) () 3) ∗ cred (tallyAt (cell c 4) () N)
    ∗ cred (tallyAt (cell c 5) () N) ∗ cred (tallyAt (cell c 6) () N) ∗ levAts L lv ∗ outLoc c ↦{fullShare} m (outLoc c))

/-- and the two scratch buffers. -/
def Φ₀ (c : Dev nD) : sProp 𝕄 :=
  iprop(start m c ∗ (∃ f, sumLoc c ↦{fullShare} f) ∗ ∃ f, commLoc c ↦{fullShare} f)

/-- After: the result's block, all cells closed, and the two scratch buffers. -/
def Φ₁ (c : Dev nD) : sProp 𝕄 :=
  iprop((outLoc c ↦{fullShare} outAt m c) ∗ (bigSep Finset.univ fun k : Fin 8 => semVal (cell c k) 0)
    ∗ (∃ f, sumLoc c ↦{fullShare} f) ∗ ∃ f, commLoc c ↦{fullShare} f)

def dats (_ : Fin 1) (c : Dev nD) : Dat τ (Elt F) Unit ℕ UU ℕ cfg0 c where
  A w := m ((cfg0.win w).arr.view.loc (c : Thread nD τ))
  after w _ := match w with
    | ⟨0, _⟩ => xAt m c
  Φ t := match t with
    | ⟨0, _⟩ => Φ₀ m c
    | ⟨_ + 1, _⟩ => Φ₁ m c
  q _ := fullShare
  owed t := match t with
    | ⟨0, _⟩ => owed6 c
    | ⟨_ + 1, _⟩ => 0

theorem fetch_x (t : Fin cfg0.N) : (cfg0.win (0 : Fin 1)).fetch t = true := by rw [fin_N0 t]; rfl

/-! ## The blocks, read and written whole -/

abbrev whole2 : Rect S256x256 := Rect.unit (s := S256x256) ![0, 0] S256x256.size inb_S256x256_S256x256_0_0

theorem at_zero : (![0, 0] : Fin 2 → Nat) = fun _ => 0 := funext fun a => by fin_cases a <;> rfl
theorem read_x (f : (cc0_stg0_0 : Ref sig .tc).ty.Contents (Elt F)) : xM.view.readAt (Elt F) whole2.toLoadRect f = f :=
  Memref.readAt_unit_zero (Elt F) cc0_stg0_0 at_zero _ f
theorem read_sum (f : (cc0_scratch0 : Ref sig .tc).ty.Contents (Elt F)) : sumM.view.readAt (Elt F) whole2.toLoadRect f = f :=
  Memref.readAt_unit_zero (Elt F) cc0_scratch0 at_zero _ f
theorem write_sum (f w : (cc0_scratch0 : Ref sig .tc).ty.Contents (Elt F)) :
    (sumM.access whole2).write (Elt F) f w Finset.univ = w :=
  Memref.write_access_unit_zero_univ (Elt F) cc0_scratch0 at_zero _ f w

/-- The copy of the sums over the result's block leaves both equal. -/
theorem copied (c : Dev nD) (f : (main_v1 : Ref sig .tc).ty.Contents (Elt F)) (w : (cc0_scratch0 : Ref sig .tc).ty.Contents (Elt F))
    (hw : w = outAt m c) :
    iprop((outM.view.loc (c : Thread nD τ) ↦[outM.view.set]{fullShare} (outM.view.write (Elt F) f (sumM.view.read (Elt F) w) Finset.univ))
        ∗ (sumM.view.loc (c : Thread nD τ) ↦[sumM.view.set]{fullShare} w))
      ⊢ (sched m).payload (cell c 7) 0 0 := by
  subst hw
  rw [payload_at, show payOf m c 7 0 = outPay m c from rfl]
  unfold outPay
  have e : outM.view.write (Elt F) f (sumM.view.read (Elt F) (outAt m c)) Finset.univ = outAt m c := by
    show (View.whole main_v1).write (Elt F) f ((View.whole cc0_scratch0).read (Elt F) (outAt m c)) Finset.univ = _
    rw [View.read_whole]
    exact View.write_whole_univ _ _ _
  rw [e, View.set_whole, View.set_whole]

theorem owns_whole (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- The ten tokens a device is dealt, one by one. -/
theorem dealt (c : Dev nD) :
    (bigSep Finset.univ fun i : Fin 10 => tok (hop (ahead i).val c) i : sProp 𝕄)
      = iprop(dutyTok EX (cell (hop 3 c) 0) 0 0 ∗ dutyTok EX (cell (hop 2 c) 0) 0 1 ∗ dutyTok EX (cell (hop 1 c) 0) 0 2
        ∗ dutyTok EX (cell c 1) 0 0 ∗ dutyTok EX (cell c 2) 0 0 ∗ dutyTok EX (cell c 3) 0 0
        ∗ dutyTok EX (cell (hop 1 c) 4) 0 0 ∗ dutyTok EX (cell (hop 2 c) 5) 0 0 ∗ dutyTok EX (cell (hop 3 c) 6) 0 0
        ∗ dutyTok EX (cell c 7) 0 0) := by
  have h : hop 0 c = c := by revert c; decide
  rw [bigSep_fin10]
  show iprop(dutyTok EX (cell (hop 3 c) 0) 0 0 ∗ dutyTok EX (cell (hop 2 c) 0) 0 1 ∗ dutyTok EX (cell (hop 1 c) 0) 0 2
        ∗ dutyTok EX (cell (hop 0 c) 1) 0 0 ∗ dutyTok EX (cell (hop 0 c) 2) 0 0 ∗ dutyTok EX (cell (hop 0 c) 3) 0 0
        ∗ dutyTok EX (cell (hop 1 c) 4) 0 0 ∗ dutyTok EX (cell (hop 2 c) 5) 0 0 ∗ dutyTok EX (cell (hop 3 c) 6) 0 0
        ∗ dutyTok EX (cell (hop 0 c) 7) 0 0) = _
  rw [h]

/-! ## The run -/

def bodyPre (K : Dev nD × Fin 8 → ℕ) (c : Dev nD) : sProp 𝕄 :=
  iprop(ghost m K c ∗ (cred (tallyAt (cell c 0) () 3) ∗ cred (tallyAt (cell c 4) () N)
      ∗ cred (tallyAt (cell c 5) () N) ∗ cred (tallyAt (cell c 6) () N) ∗ levAts L lv) ∗ (outLoc c ↦{fullShare} m (outLoc c))
    ∗ (∃ f, sumLoc c ↦{fullShare} f) ∗ (∃ f, commLoc c ↦{fullShare} f)
    ∗ (dats m 0 c).owesAt () t0_0.castSucc ∗ xLoc c ↦{fullShare} xAt m c)

def bodyPost (c : Dev nD) : sProp 𝕄 :=
  iprop(Φ₁ m c ∗ (dats m 0 c).owesAt () t0_0.succ ∗ xLoc c ↦{fullShare} xAt m c)

set_option maxHeartbeats 1600000 in
theorem body_runs (K : Dev nD × Fin 8 → ℕ) (c : Dev nD) (P : PUnit → sProp 𝕄) :
    iprop(bodyPre m K c ∗ (bodyPost m c -∗ P ⟨⟩))
      ⊢ runs c (cc0_body xM (Memref.isWhole_whole _) outM (Memref.isWhole_whole _) sumM (Memref.isWhole_whole _)
          commM (Memref.isWhole_whole _) cc0_scratch2 cc0_scratch3 cc0_scratch4) P := by
  simp only [cc0_body_eq_skeleton]; unfold cc0_body_skel
  simp only [k0_part1_eq_skeleton, k0_part2_eq_skeleton, k0_part3_eq_skeleton, k0_part4_eq_skeleton, k0_part5_eq_skeleton,
    k0_part6_eq_skeleton, k0_part7_eq_skeleton, k0_part8_eq_skeleton]
  unfold k0_part1_skel k0_part2_skel k0_part3_skel k0_part4_skel k0_part5_skel k0_part6_skel k0_part7_skel k0_part8_skel
  simp only [semSignalWord, semWaitWord, Prog.lift, Prog.bind_op, Prog.bind_ret, Prog.pure_eq_ret, wp_deviceId]
  unfold bodyPre ghost
  rw [bigSep_fin8, dealt]
  iintro ⟨⟨⟨#HR, ⟨Ha0, Ha1, Ha2, Ha3, Ha4, Ha5, Ha6, Ha7⟩, Ht0, Ht1, Ht2, Ht3, Ht4, Ht5, Ht6, Ht7, Ht8, Ht9⟩,
    ⟨Hc0, Hc4, Hc5, Hc6, #Hlev⟩, Hout, ⟨%fs, Hsum⟩, ⟨%fc, Hcomm⟩, Ho, Hx⟩, Hk⟩
  unfold Dat.owesAt Pipeline.owesWithin
  icases Ho with ⟨%W, %hW, HO⟩
  rw [show (dats m 0 c).owed t0_0.castSucc = owed6 c from rfl]
  ihave Hrows := (Entails.of_eq (comm_rows c fc)) $$ Hcomm
  icases Hrows with ⟨Hr0, Hr1, Hr2, Hr3⟩
  -- the three signals
  iapply (wp_signal_row m c K 2 _ (dev1_eq c) fc (owed5 c) W) $$ [HO Ht2 Hr2]
  · isplitr; · iexact HR
    isplitl [HO]; · iexact HO
    isplitl [Ht2]; · iexact Ht2
    iexact Hr2
  iintro HO
  iapply (wp_signal_row m c K 1 _ (dev2_eq c) fc (owed4 c) W) $$ [HO Ht1 Hr1]
  · isplitr; · iexact HR
    isplitl [HO]; · iexact HO
    isplitl [Ht1]; · iexact Ht1
    iexact Hr1
  iintro HO
  iapply (wp_signal_row m c K 0 _ (dev3_eq c) fc (owed3 c) W) $$ [HO Ht0 Hr0]
  · isplitr; · iexact HR
    isplitl [HO]; · iexact HO
    isplitl [Ht0]; · iexact Ht0
    iexact Hr0
  iintro HO
  -- the block, and its total in row 3
  iapply (wp_load 𝒱₀ (c : Thread nD τ) none Set.univ (m := xM) (Finset.subset_univ _)) $$ Hx; iintro Hx
  rw [read_x]
  iapply (wp_load_row_any c 3 fc) $$ Hr3; iintro Hr3
  iapply (wp_store_row c 3 (tot m c) fc) $$ Hr3; iintro Hr3
  -- the barrier
  iapply (wp_wait_bar m c K W) $$ [Hc0 HO Ha0]
  · isplitr; · iexact HR
    isplitr; · iexact Hlev
    isplitl [Hc0]; · iexact Hc0
    isplitl [HO]; · iexact HO
    iexact Ha0
  unfold barPay
  iintro ⟨HO, Ha0, ⟨%g0, Hd0⟩, ⟨%g1, Hd1⟩, ⟨%g2, Hd2⟩⟩
  ihave Ht := (row_thirds c (rows (tot m c))).1 $$ Hr3
  icases Ht with ⟨Hs0, Hs1, Hs2⟩
  -- the three copies
  iapply (wp_send_row m c K 0 _ (dev4_eq c) _ _ (congrArg SemLoc.dma send0_eq) (congrArg SemLoc.dma recv0_eq) g0 (owed2 c) (insert (semOf 0, ()) W)) $$ [Hs0 Hd0 HO Ht3 Ht6]
  · isplitr; · iexact HR
    isplitl [Hs0]; · iexact Hs0
    isplitl [Hd0]; · iexact Hd0
    isplitl [HO]; · iexact HO
    isplitl [Ht3]; · iexact Ht3
    iexact Ht6
  iintro ⟨Hc1, HO⟩
  iapply (wp_send_row m c K 1 _ (dev5_eq c) _ _ (congrArg SemLoc.dma send1_eq) (congrArg SemLoc.dma recv1_eq) g1 (owed1 c) (insert (semOf 0, ()) W)) $$ [Hs1 Hd1 HO Ht4 Ht7]
  · isplitr; · iexact HR
    isplitl [Hs1]; · iexact Hs1
    isplitl [Hd1]; · iexact Hd1
    isplitl [HO]; · iexact HO
    isplitl [Ht4]; · iexact Ht4
    iexact Ht7
  iintro ⟨Hc2, HO⟩
  ihave HO := (Entails.of_eq (congrArg (fun O => owes (c : Thread nD τ) O (insert (semOf 0, ()) W)) (zero_add (owed1 c)).symm)) $$ HO
  iapply (wp_send_row m c K 2 _ (dev6_eq c) _ _ (congrArg SemLoc.dma send2_eq) (congrArg SemLoc.dma recv2_eq) g2 0 (insert (semOf 0, ()) W)) $$ [Hs2 Hd2 HO Ht5 Ht8]
  · isplitr; · iexact HR
    isplitl [Hs2]; · iexact Hs2
    isplitl [Hd2]; · iexact Hd2
    isplitl [HO]; · iexact HO
    isplitl [Ht5]; · iexact Ht5
    iexact Ht8
  iintro ⟨Hc3, HO⟩
  -- the running sums
  iapply (wp_load 𝒱₀ (c : Thread nD τ) none Set.univ (m := sumM) (Finset.subset_univ _)) $$ Hsum; iintro Hsum
  iapply (wp_store 𝒱₀ (c : Thread nD τ) none Set.univ (m := sumM) (r := whole2) (Mk := Finset.univ) (Finset.subset_univ _)) $$ Hsum; iintro Hsum
  rw [write_sum]
  -- the three arrivals
  iapply (wp_wait_copy m c K 4 (by decide) _ (congrArg SemLoc.dma recv0_eq) (src := rowM 3 (rowIn 3)) (dst := rowM 0 (rowIn 0)) rfl _) $$ [Hc4 HO Ha4]
  · isplitr; · iexact HR
    isplitl [Hc4]; · iexact Hc4
    isplitl [HO]; · iexact HO
    iexact Ha4
  iintro ⟨HO, Ha4, Hr0⟩
  ihave Hr0 := (Entails.of_eq (show payOf m c 4 0 = rowAt c 0 fullShare (rows (tot m (hop 3 c))) from rfl)) $$ Hr0
  iapply (wp_load_row c 0 (tot m (hop 3 c))) $$ Hr0; iintro Hr0
  iapply (wp_wait_copy m c K 5 (by decide) _ (congrArg SemLoc.dma recv1_eq) (src := rowM 3 (rowIn 3)) (dst := rowM 1 (rowIn 1)) rfl _) $$ [Hc5 HO Ha5]
  · isplitr; · iexact HR
    isplitl [Hc5]; · iexact Hc5
    isplitl [HO]; · iexact HO
    iexact Ha5
  iintro ⟨HO, Ha5, Hr1⟩
  ihave Hr1 := (Entails.of_eq (show payOf m c 5 0 = rowAt c 1 fullShare (rows (tot m (hop 2 c))) from rfl)) $$ Hr1
  iapply (wp_load_row c 1 (tot m (hop 2 c))) $$ Hr1; iintro Hr1
  iapply (wp_wait_copy m c K 6 (by decide) _ (congrArg SemLoc.dma recv2_eq) (src := rowM 3 (rowIn 3)) (dst := rowM 2 (rowIn 2)) rfl _) $$ [Hc6 HO Ha6]
  · isplitr; · iexact HR
    isplitl [Hc6]; · iexact Hc6
    isplitl [HO]; · iexact HO
    iexact Ha6
  iintro ⟨HO, Ha6, Hr2⟩
  ihave Hr2 := (Entails.of_eq (show payOf m c 6 0 = rowAt c 2 fullShare (rows (tot m (hop 1 c))) from rfl)) $$ Hr2
  iapply (wp_load_row c 2 (tot m (hop 1 c))) $$ Hr2; iintro Hr2
  -- the result's block
  iapply (wp_load 𝒱₀ (c : Thread nD τ) none Set.univ (m := sumM) (Finset.subset_univ _)) $$ Hsum; iintro Hsum
  rw [read_sum]
  iapply (wp_load 𝒱₀ (c : Thread nD τ) none Set.univ (m := sumM) (Finset.subset_univ _)) $$ Hsum; iintro Hsum
  iapply (wp_store 𝒱₀ (c : Thread nD τ) none Set.univ (m := sumM) (r := whole2) (Mk := Finset.univ) (Finset.subset_univ _)) $$ Hsum; iintro Hsum
  rw [write_sum]
  -- its copy to main memory
  ihave #Hr7 := (record m K c 7) $$ HR
  icases Hr7 with ⟨#HI7, #Hat7⟩
  iapply (Rounds.wp_copy_pointsTo 𝒱₀ EX (sched m) (c : Thread nD τ) none (κ := K (c, 7)) (src := sumM) (dst := outM) (sem := semOf 7)
    (q := fullShare) (fs := outAt m c) (fd := m (outLoc c)) (r := 0) (d := 0)
    (by rw [duties_at]; exact Finset.mem_singleton_self _) () Nout rfl (amount_at m c 7 0) (copied m c _ _ rfl)) $$ [Hsum Hout Ht9]
  · isplitr; · iexact HI7
    isplitl [Hsum]; · rw [View.set_whole]; iexact Hsum
    isplitl [Hout]; · rw [View.set_whole]; iexact Hout
    isplitl [Ht9]; · iexact Ht9
    iexact Hat7
  iintro Hc7
  -- the departures
  iapply (wp_wait_copy m c K 1 (by decide) _ (congrArg SemLoc.dma send0_eq) (src := rowM 0 (rowIn 0)) (dst := rowM 3 (rowIn 3)) rfl _) $$ [Hc1 HO Ha1]
  · isplitr; · iexact HR
    isplitl [Hc1]; · iexact Hc1
    isplitl [HO]; · iexact HO
    iexact Ha1
  iintro ⟨HO, Ha1, Hs0⟩
  iapply (wp_wait_copy m c K 2 (by decide) _ (congrArg SemLoc.dma send1_eq) (src := rowM 1 (rowIn 1)) (dst := rowM 3 (rowIn 3)) rfl _) $$ [Hc2 HO Ha2]
  · isplitr; · iexact HR
    isplitl [Hc2]; · iexact Hc2
    isplitl [HO]; · iexact HO
    iexact Ha2
  iintro ⟨HO, Ha2, Hs1⟩
  iapply (wp_wait_copy m c K 3 (by decide) _ (congrArg SemLoc.dma send2_eq) (src := rowM 2 (rowIn 2)) (dst := rowM 3 (rowIn 3)) rfl _) $$ [Hc3 HO Ha3]
  · isplitr; · iexact HR
    isplitl [Hc3]; · iexact Hc3
    isplitl [HO]; · iexact HO
    iexact Ha3
  iintro ⟨HO, Ha3, Hs2⟩
  -- the end of the copy to main memory
  iapply (wp_wait_copy m c K 7 (by decide) _ (congrArg SemLoc.dma out_eq) (src := sumM) (dst := outM) rfl _) $$ [Hc7 HO Ha7]
  · isplitr; · iexact HR
    isplitl [Hc7]; · iexact Hc7
    isplitl [HO]; · iexact HO
    iexact Ha7
  iintro ⟨HO, Ha7, Hp⟩
  ihave Hp := (Entails.of_eq (show payOf m c 7 0 = iprop((outLoc c ↦{fullShare} outAt m c) ∗ sumLoc c ↦{fullShare} outAt m c) from rfl)) $$ Hp
  icases Hp with ⟨Hout, Hsum⟩
  -- everything put back
  ihave Hr3 := (show iprop(payOf m c 1 0 ∗ payOf m c 2 0 ∗ payOf m c 3 0) ⊢ rowAt c 3 fullShare (rows (tot m c)) from
    (row_thirds c (rows (tot m c))).2) $$ [Hs0 Hs1 Hs2]
  · isplitl [Hs0]; · iexact Hs0
    isplitl [Hs1] <;> iassumption
  ihave Hcomm := (rows_comm c ![rows (tot m (hop 3 c)), rows (tot m (hop 2 c)), rows (tot m (hop 1 c)), rows (tot m c)]) $$ [Hr0 Hr1 Hr2 Hr3]
  · isplitl [Hr0]; · iexact Hr0
    isplitl [Hr1]; · iexact Hr1
    isplitl [Hr2]; · iexact Hr2
    iexact Hr3
  unfold runs
  rw [wp_ret]
  imod (close_cells m K c) $$ [Ha0 Ha1 Ha2 Ha3 Ha4 Ha5 Ha6 Ha7] with Hz
  · isplitr; · iexact HR
    rw [bigSep_fin8]
    isplitl [Ha0]; · iexact Ha0
    isplitl [Ha1]; · iexact Ha1
    isplitl [Ha2]; · iexact Ha2
    isplitl [Ha3]; · iexact Ha3
    isplitl [Ha4]; · iexact Ha4
    isplitl [Ha5]; · iexact Ha5
    isplitl [Ha6] <;> iassumption
  imodintro
  iapply Hk
  unfold bodyPost Φ₁ Dat.owesAt Pipeline.owesWithin
  rw [show (dats m 0 c).owed t0_0.succ = 0 from rfl]
  isplitl [Hout Hz Hsum Hcomm]
  · isplitl [Hout]; · iexact Hout
    isplitl [Hz]; · iexact Hz
    isplitl [Hsum]; · iexists _; iexact Hsum
    iexact Hcomm
  isplitl [HO]
  · iexists _
    isplitr
    rotate_left
    · iexact HO
    · ipureintro; exact fun _ _ => Or.inl trivial
  iexact Hx

/-- The library's obligation for the body. -/
theorem body_obligation (c : Dev nD) : BodyObligation (dats (F := F) m 0 c) (defs₀ (F := F)) 𝒱₀ () Set.univ := fun t => by
  rw [fin_N0 t, bigSep_W0, bigSep_W0]
  simp only [owns_whole]
  show iprop(Φ₀ m c ∗ (dats m 0 c).owesAt () t0_0.castSucc
      ∗ ∃ d, ∃ f : Buf (Elt F) (xLoc c), ⌜f = (dats m 0 c).before (0 : Fin 1) t0_0 d⌝ ∗ xLoc c ↦{fullShare} f)
    ⊢ runs c (cc0_body xM (Memref.isWhole_whole _) outM (Memref.isWhole_whole _) sumM (Memref.isWhole_whole _)
        commM (Memref.isWhole_whole _) cc0_scratch2 cc0_scratch3 cc0_scratch4)
      (fun _ => iprop(Φ₁ m c ∗ (dats m 0 c).owesAt () t0_0.succ ∗ ∃ f : Buf (Elt F) (xLoc c), ⌜f = xAt m c⌝ ∗ xLoc c ↦{fullShare} f))
  unfold Φ₀ start
  iintro ⟨⟨⟨⟨%K, Hg⟩, Hc0, Hc4, Hc5, Hc6, Hlev, Hout⟩, Hsum, Hcomm⟩, Ho, ⟨%d, %f, %hf, Hx⟩⟩
  have hx : f = xAt m c := by rw [hf]; unfold Dat.before; rw [if_pos (fetch_x t0_0)]; rfl
  subst hx
  iapply (body_runs m K c fun _ => _)
  unfold bodyPre bodyPost
  isplitl
  · isplitl [Hg]; · iexact Hg
    isplitl [Hc0 Hc4 Hc5 Hc6 Hlev]
    · isplitl [Hc0]; · iexact Hc0
      isplitl [Hc4]; · iexact Hc4
      isplitl [Hc5]; · iexact Hc5
      isplitl [Hc6] <;> iassumption
    isplitl [Hout]; · iexact Hout
    isplitl [Hsum]; · iexact Hsum
    isplitl [Hcomm]; · iexact Hcomm
    isplitl [Ho] <;> iassumption
  iintro ⟨HΦ, Ho, Hx⟩
  isplitl [HΦ]; · iexact HΦ
  isplitl [Ho]; · iexact Ho
  iexists _
  isplitr; · (ipureintro; rfl)
  iexact Hx

end Cert.PrefixSum

end
-- ==== Proof.Run.lean ====
/-
# The run of the whole program

The launch deals every device its cells, its places and its tokens; the tokens go to the devices that pay with them; the
credit for arrivals and signals is what the others owe. Then the body's runs on the four devices make a run of the
program: it ends, `x` is unchanged, every device's result holds `outAt`, and all counters are zero.
-/
module

public import proofs.«01_k».proof.Proof.Body
public import Idealize.ShloMosaic.Lib.Pipeline.Quiescent

@[expose] public section

noncomputable section

namespace Cert.PrefixSum

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The kernel's own semaphores are those of its copies. -/
def ownSem (k : Fin 7) : SemLoc sig := .dma k.succ

theorem ownSemFacts : Pipeline.OwnSemFacts cfg0.spec ownSem := by decide
theorem share_full (c : Dev nD) (w : Fin cfg0.W) : (dats m 0 c).share w = fullShare := by unfold Dat.share; split <;> rfl

/-! ## The deal -/

def cellSet : Finset (GSem nD τ sig) := Finset.univ.map ⟨fun ck : Dev nD × Fin 8 => cell ck.1 ck.2, cell_injective⟩

theorem tok_injective :
    Function.Injective fun ci : Dev nD × Fin 10 => ((cell ci.1 (tokCell ci.2), 0, tokDuty ci.2) : GSem nD τ sig × ℕ × Fin 3) := by
  rintro ⟨c, i⟩ ⟨c', i'⟩ h
  obtain ⟨hc, hk⟩ := cell_eq_iff.mp (congrArg Prod.fst h)
  have hd : tokDuty i = tokDuty i' := congrArg (fun x => x.2.2) h
  have key : ∀ a b : Fin 10, tokCell a = tokCell b → tokDuty a = tokDuty b → a = b := by decide
  have hi : i = i' := key i i' hk hd
  have hc' : c = c' := hc
  rw [hc', hi]
def tokSet : Finset (GSem nD τ sig × ℕ × Fin 3) :=
  Finset.univ.map ⟨fun ci : Dev nD × Fin 10 => (cell ci.1 (tokCell ci.2), 0, tokDuty ci.2), tok_injective⟩

/-- The resources at launch. -/
def u₀ : UU :=
  (initOf (Pipeline.cells cfgs cellOf_inj) (Pipeline.launchToks cfgs cellOf_inj), initOf cellSet tokSet)

/-- What a device is dealt before anything is passed round: for its own cells, their state, its places, and all their tokens. -/
def G (c : Dev nD) : sProp 𝕄 :=
  iprop((bigSep Finset.univ fun k : Fin 8 => roundState EX (sched m) (cell c k) 0)
    ∗ ((bigSep Finset.univ fun k : Fin 8 => atPos EX (cell c k) 0 ∅ 0)
      ∗ bigSep Finset.univ fun k : Fin 8 => reached EX (cell c k) 0)
    ∗ bigSep Finset.univ fun i : Fin 10 => tok c i)

theorem deal : BI.own (EX (initOf cellSet tokSet)) ⊢ (|==> bigSep Finset.univ (G m) : sProp 𝕄) := by
  have hX (Φ : GSem nD τ sig → sProp 𝕄) :
      bigSep cellSet Φ = bigSep Finset.univ fun c : Dev nD => bigSep Finset.univ fun k : Fin 8 => Φ (cell c k) := by
    unfold cellSet; rw [bigSep_map, bigSep_univ_prod]; rfl
  have hT : bigSep tokSet (fun x => (dutyTok EX x.1 x.2.1 x.2.2 : sProp 𝕄))
      = bigSep Finset.univ fun c : Dev nD => bigSep Finset.univ fun i : Fin 10 => tok c i := by
    unfold tokSet; rw [bigSep_map, bigSep_univ_prod]; rfl
  iintro HX
  imod (Rounds.fund EX (sched m) cellSet tokSet) $$ HX with ⟨Hst, Hr, Hat, Htok⟩
  imodintro
  ihave Hst := (Entails.of_eq (hX fun g => roundState EX (sched m) g 0)) $$ Hst
  ihave Hat := (Entails.of_eq (hX fun g => atPos EX g 0 ∅ 0)) $$ Hat
  ihave Hr := (Entails.of_eq (hX fun g => reached EX g 0)) $$ Hr
  ihave Htok := (Entails.of_eq hT) $$ Htok
  unfold G
  simp only [bigSep_sep']
  isplitl [Hst]; · iexact Hst
  isplitl [Hat Hr]
  · isplitl [Hat] <;> iassumption
  iexact Htok

/-! ## Setting up the cells, and passing the tokens round -/

theorem ownSems_eq (c : Dev nD) :
    (Pipeline.ownSems0 (Ix := Unit) (Name := ℕ) (U := UU) (Lvl := ℕ) (Val := Elt F) (τ := τ) ownSem c : sProp 𝕄)
      = iprop(semVal (cell c 1) 0 ∗ semVal (cell c 2) 0 ∗ semVal (cell c 3) 0 ∗ semVal (cell c 4) 0
        ∗ semVal (cell c 5) 0 ∗ semVal (cell c 6) 0 ∗ semVal (cell c 7) 0) := by
  rw [Pipeline.ownSems0_eq_of_list c ownSem [0, 1, 2, 3, 4, 5, 6] (by decide) (by decide)]; rfl
theorem barSem_eq (c : Dev nD) : (unscopedSems0 c : sProp 𝕄) = semVal (cell c 0) 0 := by
  unfold unscopedSems0; rw [bigSep_eq_bigSepL_of_eq [SemLoc.reg barS] (by decide) (by decide)]; rfl

/-- The barrier's counter and the copies' are the eight cells' counters. -/
theorem counters (c : Dev nD) :
    iprop(unscopedSems0 c ∗ Pipeline.ownSems0 (Ix := Unit) (Name := ℕ) (U := UU) (Lvl := ℕ) (Val := Elt F) (τ := τ) ownSem c)
      = (bigSep Finset.univ fun k : Fin 8 => semVal (cell c k) 0 : sProp 𝕄) := by
  rw [ownSems_eq, barSem_eq, bigSep_fin8]

theorem set_up (c : Dev nD) :
    iprop(Pipeline.ownSems0 (Ix := Unit) (Name := ℕ) (U := UU) (Lvl := ℕ) (Val := Elt F) (τ := τ) ownSem c ∗ unscopedSems0 c ∗ G m c)
      ⊢ |={Set.univ}=> iprop((bigSep Finset.univ fun k : Fin 8 => iprop(∃ κ : ℕ, cellInv EX (sched m) κ (cell c k)))
          ∗ ((bigSep Finset.univ fun k : Fin 8 => atPos EX (cell c k) 0 ∅ 0)
            ∗ bigSep Finset.univ fun k : Fin 8 => reached EX (cell c k) 0)
          ∗ bigSep Finset.univ fun i : Fin 10 => tok c i) := by
  have halloc : iprop((bigSep Finset.univ fun k : Fin 8 => semVal (cell c k) 0)
        ∗ bigSep Finset.univ fun k : Fin 8 => roundState EX (sched m) (cell c k) 0)
      ⊢ (|={Set.univ}=> bigSep Finset.univ fun k : Fin 8 => iprop(∃ κ : ℕ, cellInv EX (sched m) κ (cell c k)) : sProp 𝕄) := by
    rw [← bigSep_sep']
    exact (bigSep_mono fun k _ => (Rounds.body_intro EX (sched m) (cell c k)).trans inv_alloc).trans (bigSep_fupd _ _)
  unfold G
  iintro ⟨Hos, Hus, Hst, Hat, Htok⟩
  ihave Hv := (Entails.of_eq (counters (F := F) c)) $$ [Hos Hus]
  · isplitl [Hus] <;> iassumption
  imod halloc $$ [Hv Hst] with Hinv
  · isplitl [Hv] <;> iassumption
  imodintro
  isplitl [Hinv]; · iexact Hinv
  isplitl [Hat] <;> iassumption

/-- Token `i` of every device's cells goes to the device that lies `ahead i` places behind. -/
theorem pass_round :
    (bigSep Finset.univ fun c : Dev nD => bigSep Finset.univ fun i : Fin 10 => (tok c i : sProp 𝕄))
      = bigSep Finset.univ fun c : Dev nD => bigSep Finset.univ fun i : Fin 10 => tok (hop (ahead i).val c) i := by
  rw [bigSep_univ_comm, bigSep_univ_comm (fun c : Dev nD => fun i : Fin 10 => (tok (hop (ahead i).val c) i : sProp 𝕄))]
  exact bigSep_congr fun i _ => bigSep_univ_equiv (hopEquiv (ahead i)) (fun c : Dev nD => (tok c i : sProp 𝕄))

/-- Every device gets its share of the schedule. -/
theorem share_out :
    (bigSep Finset.univ fun c : Dev nD => iprop((bigSep Finset.univ fun k : Fin 8 => iprop(∃ κ : ℕ, cellInv EX (sched m) κ (cell c k)))
          ∗ ((bigSep Finset.univ fun k : Fin 8 => atPos EX (cell c k) 0 ∅ 0)
            ∗ bigSep Finset.univ fun k : Fin 8 => reached EX (cell c k) 0)
          ∗ bigSep Finset.univ fun i : Fin 10 => tok c i) : sProp 𝕄)
      ⊢ bigSep Finset.univ fun c : Dev nD => iprop(∃ K, ghost m K c) := by
  rw [bigSep_sep', bigSep_sep', bigSep_sep', pass_round,
    ← bigSep_univ_prod (fun ck : Dev nD × Fin 8 => iprop(∃ κ : ℕ, cellInv EX (sched m) κ (cell ck.1 ck.2))),
    ← bigSep_univ_prod (fun ck : Dev nD × Fin 8 => (reached EX (cell ck.1 ck.2) 0 : sProp 𝕄))]
  iintro ⟨HI, ⟨Hat, #HR⟩, Htok⟩
  ihave HK := (BI.bigSep_exists_pi Finset.univ (fun (ck : Dev nD × Fin 8) (κ : ℕ) => (cellInv EX (sched m) κ (cell ck.1 ck.2) : sProp 𝕄))) $$ HI
  icases HK with ⟨%K, #HI⟩
  have hone (c : Dev nD) : iprop(records m K ∗ (bigSep Finset.univ fun k : Fin 8 => atPos EX (cell c k) 0 ∅ 0)
        ∗ bigSep Finset.univ fun i : Fin 10 => tok (hop (ahead i).val c) i) ⊢ (iprop(∃ K, ghost m K c) : sProp 𝕄) := by
    unfold ghost
    iintro H
    iexists K
    iexact H
  have hall : iprop(records m K ∗ (bigSep Finset.univ fun c : Dev nD => bigSep Finset.univ fun k : Fin 8 => atPos EX (cell c k) 0 ∅ 0)
        ∗ bigSep Finset.univ fun c : Dev nD => bigSep Finset.univ fun i : Fin 10 => tok (hop (ahead i).val c) i)
      ⊢ (bigSep Finset.univ fun c : Dev nD => iprop(∃ K, ghost m K c) : sProp 𝕄) := by
    rw [← bigSep_sep']
    refine (sep_mono_left (BI.bigSep_of_persistent (Finset.univ : Finset (Dev nD)) (records m K))).trans ?_
    rw [← bigSep_sep']
    exact bigSep_mono fun c _ => hone c
  iapply hall
  isplitr
  · unfold records
    isplitr; · iexact HI
    iexact HR
  isplitl [Hat] <;> iassumption

theorem all_set_up :
    (bigSep Finset.univ fun c => iprop(Pipeline.ownSems0 (Ix := Unit) (Name := ℕ) (U := UU) (Lvl := ℕ) (Val := Elt F) (τ := τ) ownSem c
        ∗ unscopedSems0 c ∗ G m c) : sProp 𝕄)
      ⊢ |={Set.univ}=> bigSep Finset.univ fun c : Dev nD => iprop(∃ K, ghost m K c) :=
  ((bigSep_mono fun c _ => set_up m c).trans (bigSep_fupd _ _)).trans (BI.fupd_mono (share_out m))

/-! ## The credit -/

/-- All devices together owe the cell `(c, k)` the `n` units of one debt if the debt is to that semaphore, else nothing. -/
theorem sum_due (a : Fin 4) (k k' : Fin 8) (n : ℕ) (c : Dev nD) :
    ∑ d : Dev nD, due a.val k' n d (cell c k) () = if k = k' then n else 0 := by
  refine (Equiv.sum_comp (hopEquiv a) (fun e : Dev nD => (tallyAt (cell e k') () n : CellTallies nD τ sig Unit) (cell c k) ())).trans ?_
  rw [Finset.sum_congr rfl fun e _ => tallyAt_apply ..]
  by_cases h : k = k'
  · subst h
    rw [if_pos rfl, Finset.sum_eq_single c]
    · rw [if_pos ⟨rfl, rfl⟩]
    · intro e _ he; rw [if_neg fun h => he (cell_eq_iff.mp h.1).1.symm]
    · intro h; exact absurd (Finset.mem_univ _) h
  · rw [if_neg h]
    exact Finset.sum_eq_zero fun e _ => if_neg fun h' => h (cell_eq_iff.mp h'.1).2

/-- What all devices together owe the cell `(c, k)`. -/
theorem sum_owed (k : Fin 8) (c : Dev nD) :
    ∑ d : Dev nD, owed6 d (cell c k) () = (((((if k = 6 then N else 0) + (if k = 5 then N else 0)) + (if k = 4 then N else 0))
      + (if k = 0 then 1 else 0)) + (if k = 0 then 1 else 0)) + (if k = 0 then 1 else 0) := by
  have e (d : Dev nD) : owed6 d (cell c k) () = ((((due 3 6 N d (cell c k) () + due 2 5 N d (cell c k) ()) + due 1 4 N d (cell c k) ())
      + due 3 0 1 d (cell c k) ()) + due 2 0 1 d (cell c k) ()) + due 1 0 1 d (cell c k) () := rfl
  rw [Finset.sum_congr rfl fun d _ => e d]
  simp only [Finset.sum_add_distrib]
  exact congrArg₂ (· + ·) (congrArg₂ (· + ·) (congrArg₂ (· + ·) (congrArg₂ (· + ·) (congrArg₂ (· + ·)
    (sum_due 3 k 6 N c) (sum_due 2 k 5 N c)) (sum_due 1 k 4 N c)) (sum_due 3 k 0 1 c)) (sum_due 2 k 0 1 c)) (sum_due 1 k 0 1 c)

theorem credit_at (k : Fin 8) (c : Dev nD) (n : ℕ) (hn : ∑ d : Dev nD, owed6 d (cell c k) () = n) :
    tallyOn (cell c k) (launchCredit (Pipeline.owing owed6) 0 (cell c k)) = (tallyAt (cell c k) () n : CellTallies nD τ sig Unit) := by
  unfold tallyAt; refine congrArg _ (Finsupp.ext fun u => ?_); cases u
  rw [Pipeline.launchCredit_owing, Finsupp.single_eq_same, hn]

theorem credits (c : Dev nD) :
    (Pipeline.launchCred owed6 c : sProp 𝕄) ⊢ iprop(cred (tallyAt (cell c 0) () 3) ∗ cred (tallyAt (cell c 4) () N)
      ∗ cred (tallyAt (cell c 5) () N) ∗ cred (tallyAt (cell c 6) () N)) := by
  have hinj : Function.Injective semOf := by decide
  have hsub : (Pipeline.launchCred owed6 c : sProp 𝕄)
      ⊢ bigSep Finset.univ fun k : Fin 8 => cred (tallyOn (cell c k) (launchCredit (Pipeline.owing owed6) 0 (cell c k))) := by
    unfold Pipeline.launchCred
    refine (bigSep_subset (Finset.subset_univ (Finset.univ.map ⟨semOf, hinj⟩))).trans ?_
    rw [bigSep_map]; rfl
  refine hsub.trans ?_
  rw [bigSep_fin8, credit_at 0 c 3 (by rw [sum_owed]; rfl), credit_at 4 c N (by rw [sum_owed]; rfl), credit_at 5 c N (by rw [sum_owed]; rfl),
    credit_at 6 c N (by rw [sum_owed]; rfl)]
  iintro ⟨H0, -, -, -, H4, H5, H6, -⟩
  isplitl [H0]; · iexact H0
  isplitl [H4]; · iexact H4
  isplitl [H5] <;> iassumption

/-! ## The run -/

theorem start_intro (c : Dev nD) :
    iprop(Pipeline.unscopedRestP Pipeline.Prefetch.none cfg0.spec c (fun b => m ((c : Thread nD τ).loc b)) ∗ levAts L lv
        ∗ Pipeline.launchCred owed6 c ∗ prngReg c (ρ c) ∗ ∃ K, ghost m K c)
      ⊢ |={Set.univ}=> iprop(start m c ∗ emp) := by
  rw [Pipeline.unscopedRestP_none, unscopedRest0_eq]
  iintro ⟨Hout, Hlev, Hcr, -, HG⟩
  ihave Hc := (credits (F := F) c) $$ Hcr
  icases Hc with ⟨H0, H4, H5, H6⟩
  imodintro
  unfold start
  isplitl
  · isplitl [HG]; · iexact HG
    isplitl [H0]; · iexact H0
    isplitl [H4]; · iexact H4
    isplitl [H5]; · iexact H5
    isplitl [H6]; · iexact H6
    isplitl [Hlev] <;> iassumption
  · iempintro

theorem body_start (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀
  iintro ⟨Hs, -, Hr⟩
  isplitl [Hs] <;> iassumption

theorem body_end (c : Dev nD) :
    (dats m 0 c).Φ (Fin.last cfg0.N)
      ⊢ iprop((unscopedSems0 c ∗ outLoc c ↦{fullShare} outAt m c) ∗ Pipeline.ownSems0 ownSem c ∗ Pipeline.scopedRest cfg0.spec c) := by
  rw [show (dats m 0 c).Φ (Fin.last cfg0.N) = Φ₁ m c from rfl, scopedRest0_eq]
  unfold Φ₁
  rw [← counters]
  iintro ⟨Hout, ⟨Hu, Ho⟩, Hr⟩
  isplitl [Hu Hout]
  · isplitl [Hu] <;> iassumption
  isplitl [Ho] <;> iassumption

theorem staging_waits (c : Dev nD) : (levAts L lv : sProp 𝕄) ⊢ Pipeline.cellsWaits cfgs (dats m) () 0 c :=
  Pipeline.cellsWaits_intro cfgs (dats m) () 0 c fun w s t => by
    have hq : ((cfgs 0).win w).sem s = (0 : Fin 8) := by fin_cases w; fin_cases s; rfl
    rw [hq]
    refine mayWait_stage c _ ?_
    rcases t with ⟨_ | _, ht⟩
    · exact Or.inl rfl
    · exact Or.inr rfl

/-- What a run ends with. -/
def Ends (r : PUnit × MemSt nD τ sig (Elt F)) : Prop :=
  (∀ c : Dev nD, r.2.mem ((c : Thread nD τ).loc main_arg0) = m ((c : Thread nD τ).loc main_arg0)
    ∧ r.2.mem ((c : Thread nD τ).loc main_v1) = outAt m c) ∧ r.2.sem = fun _ => 0

set_option maxRecDepth 8000 in
theorem run_main : θ_run defs (onTc (τ := τ) (main (F := F))) ⟨m, fun _ => 0, ρ⟩ (Ends m) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := block_pos0) (harr := arr_whole0) (hstage := stage_whole0) (hshare := share_full m)
    (hdistinct := winFacts0.arr_inj)
    (O₀ := owed6) (howed₀ := fun _ => rfl) (howedN := fun _ => rfl)
    (L := L) (lv := lv) (hL := L_of_ne) (hwaits := staging_waits m)
    (G := G m) (G' := fun c => iprop(∃ K, ghost m K c)) (u₀ := u₀)
    (hu₀ := by
      unfold u₀
      iintro Hu
      ihave H := (ownU_pair _ _) $$ Hu
      icases H with ⟨HP, HX⟩
      imod (deal m) $$ HX with HG
      imodintro
      isplitl [HP] <;> iassumption)
    (hglob := all_set_up m)
    (hA := fun _ _ => rfl) (hpf := fun _ k => k.elim0)
    (X := start m) (Y := fun c => iprop(unscopedSems0 c ∗ outLoc c ↦{fullShare} outAt m c)) (Z := fun _ => iprop(emp))
    (hX := start_intro m ρ) (hin := body_start m) (hout := body_end m)
    (QY := fun c s => (∀ sm : SemLoc sig, sm.isScoped .tc = false → s.sem ((c.tc : Thread nD τ), sm) = 0)
      ∧ s.mem ((c : Thread nD τ).loc main_v1) = outAt m c)
    (hY := fun c s' => by
      iintro ⟨⟨Hu, Hi⟩, -, HSI⟩
      icombine HSI Hi gives %h
      ihave %hs := (tcUnscoped_read c s') $$ [Hu HSI]
      · isplitl [Hu] <;> iassumption
      imodintro
      isplitr
      · ipureintro; exact ⟨hs, Buf.eq_of_forall_mem_univ h⟩
      iexact HSI)
    (hQ := fun _ h hs => ⟨fun c => ⟨((h c).1 (0 : Fin 1)).trans ((dats (F := F) m 0 c).arrAt_in (0 : Fin 1) rfl _), (h c).2.2.2⟩,
      sem_eq_zero hs fun c => (h c).2.2.1⟩)

end Cert.PrefixSum

end
-- ==== Proof.Block.lean ====
/-
# What a device computes from its blocks

Over the extended reals: the total of a block's column is the sum of its entries, its running sums are the sums of the
entries up to each row, and the carry takes in the total of a device exactly if that device comes earlier.
-/
module

public import proofs.«01_k».proof.Proof.Schedule
public import Idealize.ShloMosaic.Lib.ValueIdx
public import Idealize.ShloMosaic.Lib.IdealHost
public import Idealize.ShloMosaic.Lib.MatmulPlain
public import Idealize.ShloMosaic.Lib.Pipeline.Value
public import Idealize.ShloMosaic.Lib.Pointwise.Reduce

@[expose] public section

noncomputable section

namespace Cert.PrefixSum

open Cert.KernelIdeal Cert.KernelIdeal.Gen
open Idealize.ShloMosaic hiding ix1 ix2 ix3
open Idealize.ShloMosaic.TcCoe Idealize.ShloMosaic.ValueIdx Idealize.SL.Sem

/-! ## Totals -/

theorem total_apply (x : FVec Ideal S256x256 .bf16) (j : Fin 256) :
    (k0_pay2 (F := Ideal) x (ix3 (0 : Fin 1) (0 : Fin 1) j) : EReal) = ∑ k : Fin 256, (x (ix2 k j) : EReal) := by
  unfold k0_pay2 k0_pay1
  refine (shapeCast_apply _ _ _ (ix2 (0 : Fin 1) j) ?_).trans ?_
  · rw [Shape.rowMajor_val_two, Shape.rowMajor_val_three]; rfl
  refine (shapeCast_apply _ _ _ (ix1 j) ?_).trans ?_
  · rw [Shape.rowMajor_val_two, Shape.rowMajor_val_one]; show j.val = 0 * 256 + j.val; omega
  refine (Ideal.reduceAdd_r2_a0 reduces_S256x256_S256 (extf (F := Ideal) .f32 (shapeCast S256x256 x shapeCasts_S256x256_S256x256) bitsLt_bf16_f32)
    (ix1 j)).trans ?_
  rw [shapeCast_self]
  rfl

/-! ## Running sums -/

theorem one_word : (FloatOps.sitofp .f32 (1#32 : BitVec 32) : Ideal .f32) = (1 : EReal) := by
  show (((1#32 : BitVec 32).toInt : ℝ) : EReal) = 1
  norm_num

theorem zero_word : (FloatOps.sitofp .f32 (0#32 : BitVec 32) : Ideal .f32) = (0 : EReal) := by
  show (((0#32 : BitVec 32).toInt : ℝ) : EReal) = 0
  norm_num

/-- The mask's entry: one at and below the diagonal, else zero. -/
theorem mask_word (r k : Fin 256) :
    ((IntOp.cmpi .sge (BitVec.ofNat 32 r.val) (BitVec.ofNat 32 k.val)).setWidth 32 : BitVec 32) = if k ≤ r then 1#32 else 0#32 := by
  have e (n : Fin 256) : (BitVec.ofNat 32 n.val).toInt = (n.val : ℤ) := by
    have := n.isLt
    rw [BitVec.toInt_eq_toNat_of_lt] <;> rw [BitVec.toNat_ofNat, Nat.mod_eq_of_lt] <;> omega
  have h : BitVec.sle (BitVec.ofNat 32 k.val) (BitVec.ofNat 32 r.val) = decide (k ≤ r) := by
    rw [BitVec.sle_eq_decide, e, e]
    exact decide_eq_decide.mpr (by rw [Fin.le_def]; omega)
  show (BitVec.ofBool (BitVec.sle (BitVec.ofNat 32 k.val) (BitVec.ofNat 32 r.val))).setWidth 32 = _
  rw [h]
  by_cases hk : k ≤ r
  · rw [if_pos hk, decide_eq_true hk]; rfl
  · rw [if_neg hk, decide_eq_false hk]; rfl

theorem running_block_apply (x : FVec Ideal S256x256 .bf16) (r j : Fin 256) :
    (k0_pay3 (F := Ideal) (k0_pay1 x) (ix2 r j) : EReal) = ∑ k : Fin 256, if k ≤ r then (x (ix2 k j) : EReal) else 0 := by
  unfold k0_pay3 k0_pay1
  rw [shapeCast_self, shapeCast_self]
  refine (Ideal.matmul_plain_apply (M := 256) (K := 256) (N := 256) none _ _ _ r j).trans ?_
  rw [constant_apply, Ideal.ofBits_zero_f32, zero_add]
  refine Finset.sum_congr rfl fun k _ => ?_
  rw [extf_apply]
  have hm : (sitofp (F := Ideal) .f32 (extui 32 (cmpi .sge (iota .tc S256x256 32 [0] iota_S256x256_d0_w32)
      (iota .tc S256x256 32 [1] iota_S256x256_d1_w32)) natLt_1_32) (ix2 r k) : EReal) = if k ≤ r then 1 else 0 := by
    have hw : (extui 32 (cmpi .sge (iota .tc S256x256 32 [0] iota_S256x256_d0_w32)
        (iota .tc S256x256 32 [1] iota_S256x256_d1_w32)) natLt_1_32) (ix2 r k) = if k ≤ r then 1#32 else 0#32 := by
      refine Eq.trans ?_ (mask_word r k)
      show (IntOp.cmpi .sge (BitVec.ofNat 32 (0 * 256 + r.val)) (BitVec.ofNat 32 (0 * 256 + k.val))).setWidth 32 = _
      rw [Nat.zero_mul, Nat.zero_add, Nat.zero_add]
    rw [sitofp_apply, hw]
    by_cases hk : k ≤ r
    · rw [if_pos hk, if_pos hk]; exact one_word
    · rw [if_neg hk, if_neg hk]; exact zero_word
  refine (congrArg (· * (x (ix2 k j) : EReal)) hm).trans ?_
  by_cases hk : k ≤ r
  · rw [if_pos hk, if_pos hk]; exact one_mul _
  · rw [if_neg hk, if_neg hk]; exact zero_mul _

/-! ## The carry -/

/-- One if device `c - o` comes before `c` on the line of devices, else zero. -/
def taken (o : ℕ) (c : Dev nD) : EReal := if o ≤ c.val then 1 else 0

/-- The word a device computes to tell whether the device `o` places behind comes earlier. -/
theorem earlier_word (c : Dev nD) (o : BitVec 32) (ho : o = 1#32 ∨ o = 2#32 ∨ o = 3#32) :
    (Scalar.extui (Scalar.cmpi .slt
        (Scalar.select (Scalar.andi (Scalar.xori
              (Scalar.cmpi .slt (Scalar.remsi (Scalar.subi (place c) o) (Scalar.select (Scalar.cmpi .eq 4#32 0#32) 1#32 4#32)) 0#32)
              (Scalar.cmpi .slt (Scalar.select (Scalar.cmpi .eq 4#32 0#32) 1#32 4#32) 0#32))
            (Scalar.cmpi .ne (Scalar.remsi (Scalar.subi (place c) o) (Scalar.select (Scalar.cmpi .eq 4#32 0#32) 1#32 4#32)) 0#32))
          (Scalar.addi (Scalar.remsi (Scalar.subi (place c) o) (Scalar.select (Scalar.cmpi .eq 4#32 0#32) 1#32 4#32))
            (Scalar.select (Scalar.cmpi .eq 4#32 0#32) 1#32 4#32))
          (Scalar.remsi (Scalar.subi (place c) o) (Scalar.select (Scalar.cmpi .eq 4#32 0#32) 1#32 4#32)))
        (place c)) : BitVec 32) = if o.toNat ≤ c.val then 1#32 else 0#32 := by
  rcases ho with rfl | rfl | rfl <;> revert c <;> decide

theorem earlier_float (c : Dev nD) (o : ℕ) :
    (Scalar.sitofp .f32 (if o ≤ c.val then 1#32 else 0#32 : BitVec 32) : Ideal .f32) = taken o c := by
  unfold taken
  by_cases h : o ≤ c.val
  · rw [if_pos h, if_pos h]; exact one_word
  · rw [if_neg h, if_neg h]; exact zero_word

/-- A total, stored as one row of a buffer of rows, read as a row. -/
theorem row_apply (t : FVec Ideal S1x1x256 .f32) (j : Fin 256) :
    k0_pay6 t (ix2 (0 : Fin 1) j) = t (ix3 (0 : Fin 1) (0 : Fin 1) j) := by
  unfold k0_pay6
  exact shapeCast_apply _ _ _ _ (by rw [Shape.rowMajor_val_two, Shape.rowMajor_val_three]; rfl)

theorem carry_first (c : Dev nD) (v : FVec Ideal S1x256 .f32) (t : FVec Ideal S1x1x256 .f32) (j : Fin 256) :
    (k0_pay5 (place c) v t (ix2 (0 : Fin 1) j) : EReal)
      = v (ix2 (0 : Fin 1) j) + taken 1 c * t (ix3 (0 : Fin 1) (0 : Fin 1) j) := by
  have hw := (congrArg (Scalar.sitofp (F := Ideal) .f32) (earlier_word c 1#32 (.inl rfl))).trans (earlier_float c 1)
  exact congrArg₂ (fun a b : EReal => v (ix2 (0 : Fin 1) j) + a * b) hw (row_apply t j)

theorem carry_second (c : Dev nD) (j : Fin 256) : (k0_pay7 (F := Ideal) (place c) (ix2 (0 : Fin 1) j) : EReal) = taken 2 c :=
  (congrArg (Scalar.sitofp (F := Ideal) .f32) (earlier_word c 2#32 (.inr (.inl rfl)))).trans (earlier_float c 2)

theorem carry_third (c : Dev nD) : (k0_pay9 (F := Ideal) (place c) : Ideal .f32) = taken 3 c :=
  (congrArg (Scalar.sitofp (F := Ideal) .f32) (earlier_word c 3#32 (.inr (.inr rfl)))).trans (earlier_float c 3)

theorem last_apply (v : FVec Ideal S1x256 .f32) (s : Ideal .f32) (t : FVec Ideal S1x1x256 .f32) (b : FVec Ideal S256x256 .bf16)
    (r j : Fin 256) :
    (k0_pay10 v s t b (ix2 r j) : EReal)
      = b (ix2 r j) + (v (ix2 (0 : Fin 1) j) + s * t (ix3 (0 : Fin 1) (0 : Fin 1) j)) := by
  unfold k0_pay10
  rw [shapeCast_self]
  have hb : S1x256.Broadcasts S256x256 := broadcasts_S1x256_S256x256
  refine congrArg (fun a : EReal => (b (ix2 r j) : EReal) + a) ?_
  refine (broadcastTo_apply _ _ (ix2 r j) (ix2 (0 : Fin 1) j) ?_).trans ?_
  · intro a
    match a with
    | ⟨0, _⟩ => rfl
    | ⟨1, _⟩ => rfl
  exact congrArg (fun a : EReal => (v (ix2 (0 : Fin 1) j) : EReal) + s * a) (row_apply t j)

/-! ## The result of a device -/

variable (m : (ℓ : Loc nD τ sig) → Buf (Elt Ideal) ℓ)

/-- The total of column `j` of the block of device `c`. -/
def colTotal (c : Dev nD) (j : Fin 256) : EReal := ∑ k : Fin 256, (xAt m c (ix2 k j) : EReal)

/-- A device's result: the sum of its block's entries up to the row, and the totals of the devices that come before it. -/
theorem outAt_apply (c : Dev nD) (r j : Fin 256) :
    (outAt m c (ix2 r j) : EReal)
      = (∑ k : Fin 256, if k ≤ r then (xAt m c (ix2 k j) : EReal) else 0)
        + (taken 1 c * colTotal m (hop 3 c) j + taken 2 c * colTotal m (hop 2 c) j + taken 3 c * colTotal m (hop 1 c) j) := by
  have h1 : (carry1 m c (ix2 (0 : Fin 1) j) : EReal) = taken 1 c * colTotal m (hop 3 c) j := by
    refine (carry_first c k0_pay4 (tot m (hop 3 c)) j).trans ?_
    have hz : (k0_pay4 (F := Ideal) (ix2 (0 : Fin 1) j) : EReal) = 0 := Ideal.ofBits_zero_f32
    rw [hz, zero_add]
    exact congrArg (taken 1 c * ·) (total_apply (xAt m (hop 3 c)) j)
  have h2 : (carry2 m c (ix2 (0 : Fin 1) j) : EReal) = taken 1 c * colTotal m (hop 3 c) j + taken 2 c * colTotal m (hop 2 c) j :=
    congrArg₂ (· + ·) h1 (congrArg₂ (· * ·) (carry_second c j) ((row_apply _ j).trans (total_apply (xAt m (hop 2 c)) j)))
  refine (last_apply _ _ _ _ r j).trans ?_
  refine congrArg₂ (· + ·) (running_block_apply (xAt m c) r j) (congrArg₂ (· + ·) h2 ?_)
  exact congrArg₂ (· * ·) (carry_third c) (total_apply (xAt m (hop 1 c)) j)

end Cert.PrefixSum

end
-- ==== Proof.Prefix.lean ====
/-
# Prefix sums of a column

The entries of one column of the whole array, listed by row and continued by zeros, and the sum of the first `n` of
them. Cutting the rows into blocks of 256 cuts such a sum into whole blocks and the start of one block.
-/
module

public import Idealize.ShloMosaic.Lib.ValueIdx

@[expose] public section

noncomputable section

namespace Cert.PrefixSum

open Idealize.ShloMosaic Idealize.ShloMosaic.ValueIdx

/-- Entry `k` of column `j`; zero below the last row. -/
def entry (X : (⟨2, ![1024, 256]⟩ : Shape).Idx → EReal) (j : Fin 256) (k : ℕ) : EReal :=
  if h : k < 1024 then X (ix2 ⟨k, h⟩ j) else 0

/-- The sum of the first `n` entries of column `j`. -/
def first (X : (⟨2, ![1024, 256]⟩ : Shape).Idx → EReal) (j : Fin 256) (n : ℕ) : EReal :=
  ∑ k ∈ Finset.range n, entry X j k

theorem entry_of_lt (X : (⟨2, ![1024, 256]⟩ : Shape).Idx → EReal) (j : Fin 256) (k : Fin 1024) :
    entry X j k.val = X (ix2 k j) := dif_pos k.isLt

/-- The first `256 c + n` terms are `c` blocks of 256 terms and `n` terms more. -/
theorem sum_by_blocks (f : ℕ → EReal) (c n : ℕ) :
    ∑ k ∈ Finset.range (256 * c + n), f k
      = (∑ d ∈ Finset.range c, ∑ k ∈ Finset.range 256, f (256 * d + k)) + ∑ k ∈ Finset.range n, f (256 * c + k) := by
  rw [Finset.sum_range_add]
  congr 1
  induction c with
  | zero => rfl
  | succ c ih => rw [Nat.mul_succ, Finset.sum_range_add _ (256 * c) 256, ih, Finset.sum_range_succ _ c]

/-- Of `N` terms, those up to place `r` are the first `r + 1`. -/
theorem sum_up_to {N : ℕ} (f : ℕ → EReal) (r : Fin N) :
    (∑ k : Fin N, if k ≤ r then f k.val else 0) = ∑ k ∈ Finset.range (r.val + 1), f k := by
  have e : (∑ k : Fin N, if k ≤ r then f k.val else 0) = ∑ k ∈ Finset.range N, if k ≤ r.val then f k else 0 :=
    Fin.sum_univ_eq_sum_range (fun k => if k ≤ r.val then f k else 0) N
  rw [e, ← Finset.sum_filter]
  refine Finset.sum_congr (Finset.ext fun k => ?_) fun _ _ => rfl
  have := r.isLt
  simp only [Finset.mem_filter, Finset.mem_range]
  omega

/-- A window of `N` places that ends at place `i` of a list with `N - 1` zeros put before it sums the first `i + 1` terms. -/
theorem sum_window_ending {N : ℕ} (f : ℕ → EReal) (i : Fin (N + 1)) :
    (∑ a : Fin (N + 1), if N ≤ i.val + a.val then f (i.val + a.val - N) else 0) = ∑ k ∈ Finset.range (i.val + 1), f k := by
  have hi := i.isLt
  obtain ⟨d, hd⟩ : ∃ d, N = d + i.val := ⟨N - i.val, by omega⟩
  refine (Fin.sum_univ_eq_sum_range (fun a => if N ≤ i.val + a then f (i.val + a - N) else 0) (N + 1)).trans ?_
  have hN : Finset.range (N + 1) = Finset.range (d + (i.val + 1)) := congrArg Finset.range (by omega)
  rw [hN, Finset.sum_range_add, Finset.sum_eq_zero, zero_add]
  · refine Finset.sum_congr rfl fun k _ => ?_
    rw [if_pos (by omega), show i.val + (d + k) - N = k by omega]
  · intro k hk
    have := Finset.mem_range.mp hk
    exact if_neg (by omega)

end Cert.PrefixSum

end
-- ==== Proof.Reference.lean ====
/-
# What the reference computes

The host's window sum, from zero, over windows as high as the array that end at each row: entry `(i, j)` of its result is
the sum of the first `i + 1` entries of column `j`.
-/
module

public import proofs.«01_k».proof.Proof.Prefix
public import proofs.«01_k».proof.Proof.Gen.ReferenceIdeal.Run
public import Idealize.ShloMosaic.Lib.IdealHost

@[expose] public section

noncomputable section

namespace Cert.PrefixSum

open Cert.ReferenceIdeal Cert.ReferenceIdeal.Gen
open Idealize.ShloMosaic Idealize.ShloMosaic.ValueIdx

/-- A fold that adds up terms is the start plus their sum. -/
theorem foldl_add_eq {ι : Type} (g : ι → EReal) (l : List ι) (v : EReal) :
    l.foldl (fun r n => r + g n) v = v + (l.map g).sum := by
  induction l generalizing v with
  | nil => simp
  | cons a l ih => rw [List.foldl_cons, ih, List.map_cons, List.sum_cons, add_assoc]

/-- The reference's result for the array `X`. -/
def running (X : FVec Ideal S1024x256 .bf16) : FVec Ideal S1024x256 .bf16 :=
  Host.reduceWindowAdd ![1024, 1] ![1, 1] ![1023, 0] ![0, 0] X (broadcastInDim S_ ![] bcast_S_S_ (constant S_ .bf16 0x0000#16))
    reduceWindows_S1024x256_S1024x256_w1024s1p1023_0_w1s1p0_0 h_S_

/-- One term of a window: the operand's entry where the window's place is inside the operand, zero above it. -/
theorem window_term (X : FVec Ideal S1024x256 .bf16) (i : Fin 1024) (j : Fin 256) (w : (⟨2, ![1024, 1]⟩ : Shape).Idx)
    (inside : Decidable (∀ a : Fin 2, (![1023, 0] : Fin 2 → ℕ) a ≤ (ix2 i j a).val * (![1, 1] : Fin 2 → ℕ) a + (w a).val
      ∧ (ix2 i j a).val * (![1, 1] : Fin 2 → ℕ) a + (w a).val - (![1023, 0] : Fin 2 → ℕ) a < S1024x256.size a)) :
    @dite EReal _ inside
        (fun hin => X fun a => ⟨(ix2 i j a).val * (![1, 1] : Fin 2 → ℕ) a + (w a).val - (![1023, 0] : Fin 2 → ℕ) a, (hin a).2⟩) (fun _ => 0)
      = if 1023 ≤ i.val + (w 0).val then entry X j (i.val + (w 0).val - 1023) else 0 := by
  have h0 : (w 0).val < 1024 := (w 0).isLt
  have h1 : (w 1).val < 1 := (w 1).isLt
  have hi := i.isLt
  have hj := j.isLt
  by_cases hc : 1023 ≤ i.val + (w 0).val
  · rw [if_pos hc, dif_pos]
    · refine Eq.trans ?_ (entry_of_lt X j ⟨i.val + (w 0).val - 1023, by omega⟩).symm
      refine congrArg X (funext fun a => Fin.ext ?_)
      match a with
      | ⟨0, _⟩ => show i.val * 1 + (w 0).val - 1023 = i.val + (w 0).val - 1023; rw [Nat.mul_one]
      | ⟨1, _⟩ => show j.val * 1 + (w 1).val - 0 = j.val; omega
    · intro a
      match a with
      | ⟨0, _⟩ => show 1023 ≤ i.val * 1 + (w 0).val ∧ i.val * 1 + (w 0).val - 1023 < 1024; omega
      | ⟨1, _⟩ => show 0 ≤ j.val * 1 + (w 1).val ∧ j.val * 1 + (w 1).val - 0 < 256; omega
  · rw [if_neg hc, dif_neg]
    intro h
    have h' : 1023 ≤ i.val * 1 + (w 0).val := (h 0).1
    omega

theorem running_apply (X : FVec Ideal S1024x256 .bf16) (i : Fin 1024) (j : Fin 256) :
    running X (ix2 i j) = first X j (i.val + 1) := by
  have hz : (broadcastInDim S_ ![] bcast_S_S_ (constant (F := Ideal) S_ .bf16 0x0000#16)) (Shape.Idx.first h_S_) = (0 : EReal) :=
    Ideal.ofBits_zero_bf16
  unfold running Host.reduceWindowAdd
  rw [Ideal.hostReduceWindowAdd_def, hz]
  unfold Ideal.hostReduceWindowAdd Host.reduceWindow
  refine (foldl_add_eq _ _ _).trans ?_
  rw [zero_add, ← Fin.sum_univ_def]
  refine (Finset.sum_congr rfl fun n _ => window_term X i j ((⟨2, ![1024, 1]⟩ : Shape).rowMajor.symm n) _).trans ?_
  refine (Equiv.sum_comp (⟨2, ![1024, 1]⟩ : Shape).rowMajor.symm
    (fun w : (⟨2, ![1024, 1]⟩ : Shape).Idx => if 1023 ≤ i.val + (w 0).val then entry X j (i.val + (w 0).val - 1023) else 0)).trans ?_
  rw [sum_idx2]
  refine (Finset.sum_congr rfl fun a _ => Fin.sum_univ_one _).trans ?_
  exact sum_window_ending (entry X j) i

end Cert.PrefixSum

end
-- ==== Proof.Equation.lean ====
/-
# The equation

If every device holds its block of rows of one array, every device's result is its block of rows of that array's running
sums: the entries of a column up to a row of block `c` are the `c` whole blocks before it and the entries of block `c` up
to that row.
-/
module

public import proofs.«01_k».proof.Proof.Block
public import proofs.«01_k».proof.Proof.Reference
public import Idealize.ShloMosaic.Lib.Layout

@[expose] public section

noncomputable section

namespace Cert.PrefixSum

open Cert.KernelIdeal Cert.KernelIdeal.Gen
open Idealize.ShloMosaic hiding ix1 ix2 ix3 eq_ix2
open Idealize.ShloMosaic.TcCoe Idealize.ShloMosaic.ValueIdx Idealize.SL.Sem

variable (m : (ℓ : Loc nD τ sig) → Buf (Elt Ideal) ℓ)

/-- The block a device works on is what its argument holds. -/
theorem xAt_eq (c : Dev nD) : xAt m c = m ((c : Thread nD τ).loc main_arg0) := by
  funext i
  refine congrArg (m ((c : Thread nD τ).loc main_arg0)) (funext fun a => Fin.ext ?_)
  match a with
  | ⟨0, _⟩ => show 0 * 256 + 1 * (i 0).val = (i 0).val; omega
  | ⟨1, _⟩ => show 0 * 256 + 1 * (i 1).val = (i 1).val; omega

/-- The block of device `c` of an array of four blocks of rows. -/
theorem block_at (X : (⟨2, ![1024, 256]⟩ : Shape).Idx → EReal) (c : Fin 4) (k j : Fin 256) :
    Layout.block ⟨2, ![256, 256]⟩ ⟨2, ![1024, 256]⟩ 0 4 c X (by decide) (ix2 k j) = X (ix2 ⟨256 * c.val + k.val, by have := c.isLt; have := k.isLt; omega⟩ j) := by
  rw [Layout.block_apply]
  refine congrArg X (funext fun a => Fin.ext ?_)
  match a with
  | ⟨0, _⟩ => show c.val * 256 + k.val = 256 * c.val + k.val; omega
  | ⟨1, _⟩ => rfl

/-- The totals of the devices that come before `c`, in the order the carry takes them, are all blocks before block `c`. -/
theorem carried (f : Dev nD → EReal) (g : ℕ → EReal) (hfg : ∀ d : Dev nD, f d = g d.val) (c : Dev nD) :
    taken 1 c * f (hop 3 c) + taken 2 c * f (hop 2 c) + taken 3 c * f (hop 1 c) = ∑ d ∈ Finset.range c.val, g d := by
  simp only [hfg, taken, hop]
  fin_cases c
  · simp
  · simp
  · simp [Finset.sum_range_succ, add_comm]
  · simp [Finset.sum_range_succ]; abel

variable (X : (⟨2, ![1024, 256]⟩ : Shape).Idx → EReal)
  (hX : ∀ c : Dev nD, m ((c : Thread nD τ).loc main_arg0) = Layout.block ⟨2, ![256, 256]⟩ ⟨2, ![1024, 256]⟩ 0 4 c X (by decide))

include hX

theorem xAt_entry (c : Dev nD) (k j : Fin 256) : (xAt m c (ix2 k j) : EReal) = entry X j (256 * c.val + k.val) := by
  rw [xAt_eq, hX c, block_at]
  exact (entry_of_lt X j _).symm

theorem colTotal_entry (c : Dev nD) (j : Fin 256) :
    colTotal m c j = ∑ k ∈ Finset.range 256, entry X j (256 * c.val + k) := by
  unfold colTotal
  rw [Finset.sum_congr rfl fun k _ => xAt_entry m X hX c k j]
  exact Fin.sum_univ_eq_sum_range (fun k => entry X j (256 * c.val + k)) 256

theorem outAt_at (c : Dev nD) (r j : Fin 256) : (outAt m c (ix2 r j) : EReal) = first X j (256 * c.val + r.val + 1) := by
  have hr : (∑ k : Fin 256, if k ≤ r then (xAt m c (ix2 k j) : EReal) else 0)
      = ∑ k ∈ Finset.range (r.val + 1), entry X j (256 * c.val + k) := by
    refine (Finset.sum_congr rfl fun k _ => ?_).trans (sum_up_to (fun k => entry X j (256 * c.val + k)) r)
    rw [xAt_entry m X hX c k j]
  have hs := carried (fun d => colTotal m d j) (fun d => ∑ k ∈ Finset.range 256, entry X j (256 * d + k))
    (fun d => colTotal_entry m X hX d j) c
  refine (outAt_apply m c r j).trans ((congrArg₂ (· + ·) hr hs).trans ((add_comm _ _).trans ?_))
  exact (sum_by_blocks (entry X j) c.val (r.val + 1)).symm

theorem outAt_eq (c : Dev nD) : outAt m c = Layout.block ⟨2, ![256, 256]⟩ ⟨2, ![1024, 256]⟩ 0 4 c (running X) (by decide) := by
  funext i
  obtain ⟨r, j, rfl⟩ : ∃ r j : Fin 256, i = ix2 r j := ⟨i 0, i 1, eq_ix2 i⟩
  exact (outAt_at m X hX c r j).trans ((block_at (running X) c r j).trans (running_apply X _ j)).symm

end Cert.PrefixSum

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Run
public import proofs.«01_k».proof.Proof.Equation
public import Idealize.ShloMosaic.Adequacy
public import Idealize.ShloMosaic.Init

@[expose] public section

noncomputable section

namespace Cert.Proof

open Idealize.ShloMosaic Idealize.ShloMosaic.TcCoe Idealize.SL.Sem Cert.PrefixSum

/-- The two printed programs have one text: their body tables agree label by label (there is one). -/
theorem bodies_agree : Cert.Kernel.defs₀ (F := Bits) = Cert.KernelIdeal.defs₀ (F := Bits) := by
  unfold Cert.Kernel.defs₀ Cert.KernelIdeal.defs₀
  refine congrArg (Defs.onTc (nD := Cert.Kernel.nD) (τ := Cert.Kernel.τ) (sig := Cert.Kernel.sig) (Λ := Cert.Kernel.Λ₀)) ?_
  funext label arguments
  match label, arguments with
  | 0, (_, _) => rfl

/-- So do the tables with the region's own labels adjoined. -/
theorem tables_agree : Cert.Kernel.defs (F := Bits) = Cert.KernelIdeal.defs (F := Bits) :=
  congrArg (Pipeline.defs (Cert.Kernel.pcfgs (F := Bits))) bodies_agree

/-- The kernel as it is printed for bits: it runs, keeps its argument and leaves every counter at zero. The run proved
    of the other printing holds for any floats, so for bits too. -/
theorem kernel_frame : Cert.quiescent_Kernel := fun m ρ _ => by
  refine (θ_run (Cert.Kernel.defs (F := Bits)) _ _).mono (fun _ h => ⟨fun c => (h.1 c).1, h.2⟩) (?_ : θ_run _ _ _ (Ends m))
  rw [tables_agree]
  exact run_main (F := Bits) m ρ

/-- The same over the extended reals. -/
theorem ideal_frame : Cert.quiescent_KernelIdeal := fun m ρ _ =>
  (θ_run (Cert.KernelIdeal.defs (F := Ideal)) _ _).mono (fun _ h => ⟨fun c => (h.1 c).1, h.2⟩) (run_main (F := Ideal) m ρ)

/-- The reference runs, keeps its argument and has no counters to leave. -/
theorem reference_frame : Cert.quiescent_ReferenceIdeal := fun m ρ _ =>
  (θ_run (Cert.ReferenceIdeal.defs (F := Ideal)) _ _).mono
    (fun _ h => ⟨fun c => (h c).2, sem_eq_zero_of_no_sems (by decide) _⟩)
    (Cert.ReferenceIdeal.Value.run m ρ)

/-- Over the extended reals every device ends with its block of rows of the reference's result. -/
theorem values : Cert.algebraic_KernelIdeal_ReferenceIdeal := fun m ρ m' ρ' _ hx =>
  ⟨running (m' (((0 : Dev Cert.ReferenceIdeal.nD).tc : Thread Cert.ReferenceIdeal.nD Cert.ReferenceIdeal.τ).loc Cert.ReferenceIdeal.main_arg0)),
    (θ_run (Cert.KernelIdeal.defs (F := Ideal)) _ _).mono
      (fun _ h c => ⟨(h.1 c).2.trans (outAt_eq m _ hx c), (h.1 c).1⟩) (run_main (F := Ideal) m ρ),
    (θ_run (Cert.ReferenceIdeal.defs (F := Ideal)) _ _).mono (fun _ h => h 0) (Cert.ReferenceIdeal.Value.run m' ρ')⟩

theorem claim : Cert.Claim :=
  ⟨Cert.Kernel.Gen.facts, Cert.KernelIdeal.Gen.facts, Cert.ReferenceIdeal.Gen.facts,
    kernel_frame, ideal_frame, reference_frame, trivial, values⟩

end Cert.Proof

end
